-- ==== Defs.lean ====
def Pre_Kernel [hPre_columns_fit : Cert.Pre_columns_fit.Facts] (m : (ℓ : Loc Cert.Kernel.nD Cert.Kernel.τ Cert.Kernel.sig) → Buf (Elt Bits) ℓ) : Prop :=
  ∀ c : Dev Cert.Kernel.nD,
    (Cert.Pre_columns_fit.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_columns_fit : Cert.Pre_columns_fit.Facts] (m : (ℓ : Loc Cert.KernelIdeal.nD Cert.KernelIdeal.τ Cert.KernelIdeal.sig) → Buf (Elt Ideal) ℓ) : Prop :=
  ∀ c : Dev Cert.KernelIdeal.nD,
    (Cert.Pre_columns_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_columns_fit [hPre_columns_fit : Cert.Pre_columns_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_columns_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_columns_fit : Cert.Pre_columns_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_columns_fit : Cert.Pre_columns_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_columns_fit [hReferenceIdeal : Cert.ReferenceIdeal.Facts] [hPre_columns_fit : Cert.Pre_columns_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_columns_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_columns_fit : Cert.Pre_columns_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_columns_fit : Cert.Pre_columns_fit.Facts),
    quiescent_Kernel (hKernel := hKernel) (hPre_columns_fit := hPre_columns_fit)
    ∧ quiescent_KernelIdeal (hKernelIdeal := hKernelIdeal) (hPre_columns_fit := hPre_columns_fit)
    ∧ quiescent_ReferenceIdeal (hReferenceIdeal := hReferenceIdeal)
    ∧ quiescent_ReferenceIdeal_pre_columns_fit (hReferenceIdeal := hReferenceIdeal) (hPre_columns_fit := hPre_columns_fit)
    ∧ preserves_Kernel_KernelIdeal
    ∧ algebraic_KernelIdeal_ReferenceIdeal (hKernelIdeal := hKernelIdeal) (hReferenceIdeal := hReferenceIdeal) (hPre_columns_fit := hPre_columns_fit)
-- ==== Pre_columns_fit.lean ====
abbrev S4x50176x2 : Shape := ⟨3, ![4, 50176, 2]⟩
abbrev S4x96x224x224 : Shape := ⟨4, ![4, 96, 224, 224]⟩
abbrev S2 : Shape := ⟨1, ![2]⟩
abbrev S_ : Shape := ⟨0, ![]⟩
abbrev S223 : Shape := ⟨1, ![223]⟩
abbrev S1 : Shape := ⟨1, ![1]⟩
abbrev S224 : Shape := ⟨1, ![224]⟩
abbrev S224x224 : Shape := ⟨2, ![224, 224]⟩
abbrev S224x224x1 : Shape := ⟨3, ![224, 224, 1]⟩
abbrev S224x224x2 : Shape := ⟨3, ![224, 224, 2]⟩
abbrev S1x224x224x2 : Shape := ⟨4, ![1, 224, 224, 2]⟩
abbrev S4x224x224x2 : Shape := ⟨4, ![4, 224, 224, 2]⟩
abbrev S1x1x1x2 : Shape := ⟨4, ![1, 1, 1, 2]⟩
abbrev S4x224x224x1 : Shape := ⟨4, ![4, 224, 224, 1]⟩
abbrev S4x224x224 : Shape := ⟨3, ![4, 224, 224]⟩

class Facts : Prop where
  bcast_S_S223 : S_.BroadcastsInDim S223 (![] : Fin 0 → Fin S223.rank)
  shapeCasts_S_S1 : S_.ShapeCasts S1
  bcast_S1_S223_0 : S1.BroadcastsInDim S223 (![0] : Fin 1 → Fin S223.rank)
  bcast_S_S1 : S_.BroadcastsInDim S1 (![] : Fin 0 → Fin S1.rank)
  concatenates_S223_S1_S224_d0 : Shape.Concatenates [S223, S1] S224 0
  bcast_S224_S224x224_0 : S224.BroadcastsInDim S224x224 (![0] : Fin 1 → Fin S224x224.rank)
  bcast_S224_S224x224_1 : S224.BroadcastsInDim S224x224 (![1] : Fin 1 → Fin S224x224.rank)
  bcast_S224x224_S224x224x1_0_1 : S224x224.BroadcastsInDim S224x224x1 (![0, 1] : Fin 2 → Fin S224x224x1.rank)
  concatenates_S224x224x1_S224x224x1_S224x224x2_d2 : Shape.Concatenates [S224x224x1, S224x224x1] S224x224x2 2
  bcast_S224x224x2_S1x224x224x2_1_2_3 : S224x224x2.BroadcastsInDim S1x224x224x2 (![1, 2, 3] : Fin 3 → Fin S1x224x224x2.rank)
  bcast_S1x224x224x2_S4x224x224x2_0_1_2_3 : S1x224x224x2.BroadcastsInDim S4x224x224x2 (![0, 1, 2, 3] : Fin 4 → Fin S4x224x224x2.rank)
  shapeCasts_S4x50176x2_S4x224x224x2 : S4x50176x2.ShapeCasts S4x224x224x2
  shapeCasts_S2_S1x1x1x2 : S2.ShapeCasts S1x1x1x2
  bcast_S1x1x1x2_S4x224x224x2_0_1_2_3 : S1x1x1x2.BroadcastsInDim S4x224x224x2 (![0, 1, 2, 3] : Fin 4 → Fin S4x224x224x2.rank)
  bcast_S_S4x224x224x2 : S_.BroadcastsInDim S4x224x224x2 (![] : Fin 0 → Fin S4x224x224x2.rank)
  slices_S4x224x224x2_S4x224x224x1_0_0_0_0 : S4x224x224x2.Slices ![0, 0, 0, 0] S4x224x224x1
  shapeCasts_S4x224x224x1_S4x224x224 : S4x224x224x1.ShapeCasts S4x224x224
  bcast_S_S4x224x224 : S_.BroadcastsInDim S4x224x224 (![] : Fin 0 → Fin S4x224x224.rank)

variable [Facts]

def fn_linspace {F : FTy → Type} [FloatOps F] (arg0 : FVec F S_ .f32) (arg1 : FVec F S_ .f32) : FVec F S224 .f32 :=
  let v0 : FVec F S_ .f32 := id arg0
  let v1 : FVec F S_ .f32 := id arg1
  let v2 : FVec F S_ .f32 := subf v1 v0
  let cst : FVec F S_ .f32 := constant S_ .f32 0x435F0000#32
  let v3 : FVec F S_ .f32 := Host.divf v2 cst
  let v4 : FVec F S223 .f32 := sitofp .f32 (iotaInDim S223 32 0)
  let cst_0 : FVec F S_ .f32 := constant S_ .f32 0x435F0000#32
  let v5 : FVec F S223 .f32 := broadcastInDim S223 ![] bcast_S_S223 cst_0
  let v6 : FVec F S223 .f32 := Host.divf v4 v5
  let v7 : FVec F S1 .f32 := shapeCast S1 v0 shapeCasts_S_S1
  let cst_1 : FVec F S_ .f32 := constant S_ .f32 0x3F800000#32
  let v8 : FVec F S223 .f32 := broadcastInDim S223 ![] bcast_S_S223 cst_1
  let v9 : FVec F S223 .f32 := subf v8 v6
  let v10 : FVec F S223 .f32 := broadcastInDim S223 ![0] bcast_S1_S223_0 v7
  let v11 : FVec F S223 .f32 := mulf v10 v9
  let v12 : FVec F S1 .f32 := shapeCast S1 v1 shapeCasts_S_S1
  let v13 : FVec F S223 .f32 := broadcastInDim S223 ![0] bcast_S1_S223_0 v12
  let v14 : FVec F S223 .f32 := mulf v13 v6
  let v15 : FVec F S223 .f32 := addf v11 v14
  let v16 : FVec F S1 .f32 := broadcastInDim S1 ![] bcast_S_S1 v1
  let v17 : FVec F S224 .f32 := (fun a b => concatenate S224 0 [⟨S223, a⟩, ⟨S1, b⟩] concatenates_S223_S1_S224_d0) v15 v16
  v17

def fn_part1 {F : FTy → Type} [FloatOps F] (main_v17 : FVec F S4x224x224 .f32) : IVec S4x224x224 1 :=
  let main_cst_5 : FVec F S_ .f32 := constant S_ .f32 0x3F800000#32
  let main_v18 : FVec F S4x224x224 .f32 := broadcastInDim S4x224x224 ![] bcast_S_S4x224x224 main_cst_5
  let main_v19 : FVec F S4x224x224 .f32 := addf main_v17 main_v18
  let main_cst_6 : FVec F S_ .f32 := constant S_ .f32 0x3F000000#32
  let main_v20 : FVec F S4x224x224 .f32 := broadcastInDim S4x224x224 ![] bcast_S_S4x224x224 main_cst_6
  let main_v21 : FVec F S4x224x224 .f32 := mulf main_v19 main_v20
  let main_cst_7 : FVec F S_ .f32 := constant S_ .f32 0x435F0000#32
  let main_v22 : FVec F S4x224x224 .f32 := broadcastInDim S4x224x224 ![] bcast_S_S4x224x224 main_cst_7
  let main_v23 : FVec F S4x224x224 .f32 := mulf main_v21 main_v22
  let main_v24 : IVec S4x224x224 32 := fptosi 32 main_v23
  let main_c : IVec S_ 32 := constantI S_ 32 2147483648#32
  let main_v25 : IVec S4x224x224 32 := broadcastInDim S4x224x224 ![] bcast_S_S4x224x224 main_c
  let main_v26 : IVec S4x224x224 1 := cmpi .sgt main_v24 main_v25
  let main_c_8 : IVec S_ 32 := constantI S_ 32 2147483647#32
  let main_v27 : IVec S4x224x224 32 := broadcastInDim S4x224x224 ![] bcast_S_S4x224x224 main_c_8
  let main_v28 : IVec S4x224x224 1 := cmpi .slt main_v24 main_v27
  let main_v29 : IVec S4x224x224 1 := andi main_v26 main_v28
  main_v29

def fn {F : FTy → Type} [FloatOps F] (main_arg0 : FVec F S4x50176x2 .f32) (main_arg1 : FVec F S4x96x224x224 .f32) : IVec S4x224x224 1 :=
  let main_cst : FVec F S2 .f32 := constant S2 .f32 0x43600000#32
  let main_cst_0 : FVec F S_ .f32 := constant S_ .f32 0xBF800000#32
  let main_cst_1 : FVec F S_ .f32 := constant S_ .f32 0x3F800000#32
  let main_v0 : FVec F S224 .f32 := fn_linspace (F := F) main_cst_0 main_cst_1
  let main_cst_2 : FVec F S_ .f32 := constant S_ .f32 0xBF800000#32
  let main_cst_3 : FVec F S_ .f32 := constant S_ .f32 0x3F800000#32
  let main_v1 : FVec F S224 .f32 := fn_linspace (F := F) main_cst_2 main_cst_3
  let main_v2 : FVec F S224x224 .f32 := broadcastInDim S224x224 ![0] bcast_S224_S224x224_0 main_v0
  let main_v3 : FVec F S224x224 .f32 := broadcastInDim S224x224 ![1] bcast_S224_S224x224_1 main_v1
  let main_v4 : FVec F S224x224x1 .f32 := broadcastInDim S224x224x1 ![0, 1] bcast_S224x224_S224x224x1_0_1 main_v3
  let main_v5 : FVec F S224x224x1 .f32 := broadcastInDim S224x224x1 ![0, 1] bcast_S224x224_S224x224x1_0_1 main_v2
  let main_v6 : FVec F S224x224x2 .f32 := (fun a b => concatenate S224x224x2 2 [⟨S224x224x1, a⟩, ⟨S224x224x1, b⟩] concatenates_S224x224x1_S224x224x1_S224x224x2_d2) main_v4 main_v5
  let main_v7 : FVec F S1x224x224x2 .f32 := broadcastInDim S1x224x224x2 ![1, 2, 3] bcast_S224x224x2_S1x224x224x2_1_2_3 main_v6
  let main_v8 : FVec F S4x224x224x2 .f32 := broadcastInDim S4x224x224x2 ![0, 1, 2, 3] bcast_S1x224x224x2_S4x224x224x2_0_1_2_3 main_v7
  let main_v9 : FVec F S4x224x224x2 .f32 := shapeCast S4x224x224x2 main_arg0 shapeCasts_S4x50176x2_S4x224x224x2
  let main_v10 : FVec F S1x1x1x2 .f32 := shapeCast S1x1x1x2 main_cst shapeCasts_S2_S1x1x1x2
  let main_v11 : FVec F S4x224x224x2 .f32 := broadcastInDim S4x224x224x2 ![0, 1, 2, 3] bcast_S1x1x1x2_S4x224x224x2_0_1_2_3 main_v10
  let main_v12 : FVec F S4x224x224x2 .f32 := Host.divf main_v9 main_v11
  let main_cst_4 : FVec F S_ .f32 := constant S_ .f32 0x40000000#32
  let main_v13 : FVec F S4x224x224x2 .f32 := broadcastInDim S4x224x224x2 ![] bcast_S_S4x224x224x2 main_cst_4
  let main_v14 : FVec F S4x224x224x2 .f32 := mulf main_v12 main_v13
  let main_v15 : FVec F S4x224x224x2 .f32 := addf main_v8 main_v14
  let main_v16 : FVec F S4x224x224x1 .f32 := (extractStridedSlice S4x224x224x1 ![0, 0, 0, 0] · slices_S4x224x224x2_S4x224x224x1_0_0_0_0) main_v15
  let main_v17 : FVec F S4x224x224 .f32 := shapeCast S4x224x224 main_v16 shapeCasts_S4x224x224x1_S4x224x224
  fn_part1 (F := F) main_v17
-- ==== Kernel.lean ====
abbrev S4x50176x2 : Shape := ⟨3, ![4, 50176, 2]⟩
abbrev S4x96x224x224 : Shape := ⟨4, ![4, 96, 224, 224]⟩
abbrev S2 : Shape := ⟨1, ![2]⟩
abbrev S4x224x224x2 : Shape := ⟨4, ![4, 224, 224, 2]⟩
abbrev S_ : Shape := ⟨0, ![]⟩
abbrev S223 : Shape := ⟨1, ![223]⟩
abbrev S1 : Shape := ⟨1, ![1]⟩
abbrev S224 : Shape := ⟨1, ![224]⟩
abbrev S224x224 : Shape := ⟨2, ![224, 224]⟩
abbrev S224x224x1 : Shape := ⟨3, ![224, 224, 1]⟩
abbrev S224x224x2 : Shape := ⟨3, ![224, 224, 2]⟩
abbrev S1x224x224x2 : Shape := ⟨4, ![1, 224, 224, 2]⟩
abbrev S1x1x1x2 : Shape := ⟨4, ![1, 1, 1, 2]⟩
abbrev S4x224x224x1 : Shape := ⟨4, ![4, 224, 224, 1]⟩
abbrev S4x224x224 : Shape := ⟨3, ![4, 224, 224]⟩
abbrev S19267584 : Shape := ⟨1, ![19267584]⟩
abbrev S200704 : Shape := ⟨1, ![200704]⟩
abbrev S50176 : Shape := ⟨1, ![50176]⟩
abbrev S2x3584 : Shape := ⟨2, ![2, 3584]⟩
abbrev S4x3584 : Shape := ⟨2, ![4, 3584]⟩
abbrev S3584 : Shape := ⟨1, ![3584]⟩
abbrev S896 : Shape := ⟨1, ![896]⟩
abbrev S2x896 : Shape := ⟨2, ![2, 896]⟩
abbrev S4x896 : Shape := ⟨2, ![4, 896]⟩
abbrev S2x100352 : Shape := ⟨2, ![2, 100352]⟩
abbrev S4x100352 : Shape := ⟨2, ![4, 100352]⟩
abbrev S16 : Shape := ⟨1, ![16]⟩
abbrev S1x16 : Shape := ⟨2, ![1, 16]⟩

abbrev nBuf : Table → Nat
  | .hbm => 91
  | .shared => 2
  | .local .scVector .vmem => 8
  | _ => 0

abbrev bufTy : (tb : Table) → Fin (nBuf tb) → BufTy
  | .hbm, ⟨0, _⟩ => ⟨S4x50176x2, .f32⟩
  | .hbm, ⟨1, _⟩ => ⟨S4x96x224x224, .f32⟩
  | .hbm, ⟨2, _⟩ => ⟨S2, .f32⟩
  | .hbm, ⟨3, _⟩ => ⟨S4x224x224x2, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S223, .f32⟩
  | .hbm, ⟨12, _⟩ => ⟨S_, .f32⟩
  | .hbm, ⟨13, _⟩ => ⟨S223, .f32⟩
  | .hbm, ⟨14, _⟩ => ⟨S223, .f32⟩
  | .hbm, ⟨15, _⟩ => ⟨S1, .f32⟩
  | .hbm, ⟨16, _⟩ => ⟨S_, .f32⟩
  | .hbm, ⟨17, _⟩ => ⟨S223, .f32⟩
  | .hbm, ⟨18, _⟩ => ⟨S223, .f32⟩
  | .hbm, ⟨19, _⟩ => ⟨S223, .f32⟩
  | .hbm, ⟨20, _⟩ => ⟨S223, .f32⟩
  | .hbm, ⟨21, _⟩ => ⟨S1, .f32⟩
  | .hbm, ⟨22, _⟩ => ⟨S223, .f32⟩
  | .hbm, ⟨23, _⟩ => ⟨S223, .f32⟩
  | .hbm, ⟨24, _⟩ => ⟨S223, .f32⟩
  | .hbm, ⟨25, _⟩ => ⟨S1, .f32⟩
  | .hbm, ⟨26, _⟩ => ⟨S224, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S223, .f32⟩
  | .hbm, ⟨35, _⟩ => ⟨S_, .f32⟩
  | .hbm, ⟨36, _⟩ => ⟨S223, .f32⟩
  | .hbm, ⟨37, _⟩ => ⟨S223, .f32⟩
  | .hbm, ⟨38, _⟩ => ⟨S1, .f32⟩
  | .hbm, ⟨39, _⟩ => ⟨S_, .f32⟩
  | .hbm, ⟨40, _⟩ => ⟨S223, .f32⟩
  | .hbm, ⟨41, _⟩ => ⟨S223, .f32⟩
  | .hbm, ⟨42, _⟩ => ⟨S223, .f32⟩
  | .hbm, ⟨43, _⟩ => ⟨S223, .f32⟩
  | .hbm, ⟨44, _⟩ => ⟨S1, .f32⟩
  | .hbm, ⟨45, _⟩ => ⟨S223, .f32⟩
  | .hbm, ⟨46, _⟩ => ⟨S223, .f32⟩
  | .hbm, ⟨47, _⟩ => ⟨S223, .f32⟩
  | .hbm, ⟨48, _⟩ => ⟨S1, .f32⟩
  | .hbm, ⟨49, _⟩ => ⟨S224, .f32⟩
  | .hbm, ⟨50, _⟩ => ⟨S224x224, .f32⟩
  | .hbm, ⟨51, _⟩ => ⟨S224x224, .f32⟩
  | .hbm, ⟨52, _⟩ => ⟨S224x224x1, .f32⟩
  | .hbm, ⟨53, _⟩ => ⟨S224x224x1, .f32⟩
  | .hbm, ⟨54, _⟩ => ⟨S224x224x2, .f32⟩
  | .hbm, ⟨55, _⟩ => ⟨S1x224x224x2, .f32⟩
  | .hbm, ⟨56, _⟩ => ⟨S4x224x224x2, .f32⟩
  | .hbm, ⟨57, _⟩ => ⟨S1x1x1x2, .f32⟩
  | .hbm, ⟨58, _⟩ => ⟨S4x224x224x2, .f32⟩
  | .hbm, ⟨59, _⟩ => ⟨S4x224x224x2, .f32⟩
  | .hbm, ⟨60, _⟩ => ⟨S_, .f32⟩
  | .hbm, ⟨61, _⟩ => ⟨S4x224x224x2, .f32⟩
  | .hbm, ⟨62, _⟩ => ⟨S4x224x224x2, .f32⟩
  | .hbm, ⟨63, _⟩ => ⟨S4x224x224x2, .f32⟩
  | .hbm, ⟨64, _⟩ => ⟨S4x224x224x1, .f32⟩
  | .hbm, ⟨65, _⟩ => ⟨S4x224x224, .f32⟩
  | .hbm, ⟨66, _⟩ => ⟨S_, .f32⟩
  | .hbm, ⟨67, _⟩ => ⟨S4x224x224, .f32⟩
  | .hbm, ⟨68, _⟩ => ⟨S4x224x224, .f32⟩
  | .hbm, ⟨69, _⟩ => ⟨S_, .f32⟩
  | .hbm, ⟨70, _⟩ => ⟨S4x224x224, .f32⟩
  | .hbm, ⟨71, _⟩ => ⟨S4x224x224, .f32⟩
  | .hbm, ⟨72, _⟩ => ⟨S_, .f32⟩
  | .hbm, ⟨73, _⟩ => ⟨S4x224x224, .f32⟩
  | .hbm, ⟨74, _⟩ => ⟨S4x224x224, .f32⟩
  | .hbm, ⟨75, _⟩ => ⟨S4x224x224x1, .f32⟩
  | .hbm, ⟨76, _⟩ => ⟨S4x224x224, .f32⟩
  | .hbm, ⟨77, _⟩ => ⟨S_, .f32⟩
  | .hbm, ⟨78, _⟩ => ⟨S4x224x224, .f32⟩
  | .hbm, ⟨79, _⟩ => ⟨S4x224x224, .f32⟩
  | .hbm, ⟨80, _⟩ => ⟨S_, .f32⟩
  | .hbm, ⟨81, _⟩ => ⟨S4x224x224, .f32⟩
  | .hbm, ⟨82, _⟩ => ⟨S4x224x224, .f32⟩
  | .hbm, ⟨83, _⟩ => ⟨S_, .f32⟩
  | .hbm, ⟨84, _⟩ => ⟨S4x224x224, .f32⟩
  | .hbm, ⟨85, _⟩ => ⟨S4x224x224, .f32⟩
  | .hbm, ⟨86, _⟩ => ⟨S19267584, .f32⟩
  | .hbm, ⟨87, _⟩ => ⟨S200704, .f32⟩
  | .hbm, ⟨88, _⟩ => ⟨S200704, .f32⟩
  | .hbm, ⟨89, _⟩ => ⟨S19267584, .f32⟩
  | .hbm, ⟨90, _⟩ => ⟨S4x96x224x224, .f32⟩
  | .shared, ⟨0, _⟩ => ⟨S2x100352, .i32⟩
  | .shared, ⟨1, _⟩ => ⟨S4x100352, .f32⟩
  | .local .scVector .vmem, ⟨0, _⟩ => ⟨S50176, .f32⟩
  | .local .scVector .vmem, ⟨1, _⟩ => ⟨S2x3584, .i32⟩
  | .local .scVector .vmem, ⟨2, _⟩ => ⟨S4x3584, .f32⟩
  | .local .scVector .vmem, ⟨3, _⟩ => ⟨S3584, .f32⟩
  | .local .scVector .vmem, ⟨4, _⟩ => ⟨S896, .f32⟩
  | .local .scVector .vmem, ⟨5, _⟩ => ⟨S896, .f32⟩
  | .local .scVector .vmem, ⟨6, _⟩ => ⟨S2x896, .i32⟩
  | .local .scVector .vmem, ⟨7, _⟩ => ⟨S4x896, .f32⟩
  | _, _ => ⟨S4x50176x2, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 5 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_cst_1 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v1 : Ref sig .tc := ⟨.hbm, 26, rfl⟩
abbrev main_cst_2 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_cst : Ref sig .tc := ⟨.hbm, 32, rfl⟩
abbrev main_call1_v3 : Ref sig .tc := ⟨.hbm, 33, rfl⟩
abbrev main_call1_v4 : Ref sig .tc := ⟨.hbm, 34, rfl⟩
abbrev main_call1_cst_0 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_cst_1 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_v15 : Ref sig .tc := ⟨.hbm, 47, rfl⟩
abbrev main_call1_v16 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_cst_4 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_cst_5 : Ref sig .tc := ⟨.hbm, 66, rfl⟩
abbrev main_v18 : Ref sig .tc := ⟨.hbm, 67, rfl⟩
abbrev main_v19 : Ref sig .tc := ⟨.hbm, 68, rfl⟩
abbrev main_cst_6 : Ref sig .tc := ⟨.hbm, 69, rfl⟩
abbrev main_v20 : Ref sig .tc := ⟨.hbm, 70, rfl⟩
abbrev main_v21 : Ref sig .tc := ⟨.hbm, 71, rfl⟩
abbrev main_cst_7 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_cst_8 : Ref sig .tc := ⟨.hbm, 77, rfl⟩
abbrev main_v26 : Ref sig .tc := ⟨.hbm, 78, rfl⟩
abbrev main_v27 : Ref sig .tc := ⟨.hbm, 79, rfl⟩
abbrev main_cst_9 : Ref sig .tc := ⟨.hbm, 80, rfl⟩
abbrev main_v28 : Ref sig .tc := ⟨.hbm, 81, rfl⟩
abbrev main_v29 : Ref sig .tc := ⟨.hbm, 82, rfl⟩
abbrev main_cst_10 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v32_scv : Ref sig .scVector := ⟨.hbm, 86, rfl⟩
abbrev main_v33_scv : Ref sig .scVector := ⟨.hbm, 87, rfl⟩
abbrev main_v34_scv : Ref sig .scVector := ⟨.hbm, 88, rfl⟩
abbrev main_v35_scv : Ref sig .scVector := ⟨.hbm, 89, rfl⟩
abbrev cc0_scratch8 : Ref sig .scVector := ⟨.shared, 0, rfl⟩
abbrev cc0_scratch9 : Ref sig .scVector := ⟨.shared, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_18 : BitVec 32 := 0#32
  let c7_i32 : BitVec 32 := 7#32
  let v45 : BitVec 32 := Scalar.addi c0_i32_18 c7_i32
  let c1_i32_19 : BitVec 32 := 1#32
  ⟨c0_i32_18, v45, c1_i32_19⟩
def k0_off1 (i : grid0.Coords) (k0_t1 : Fin k0_t1_loop.trips) : Fin 1 → Nat :=
  let c2_i32 : BitVec 32 := 2#32
  let arg0 : BitVec 32 := BitVec.ofNat 32 (i 0).val
  let v17 : BitVec 32 := Scalar.muli c2_i32 arg0
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let v0 : BitVec 32 := Scalar.divsi arg1 c8_i32
  let c1_i32 : BitVec 32 := 1#32
  let v15 : BitVec 32 := Scalar.subi v0 c1_i32
  let v16 : BitVec 32 := Scalar.select v14 v15 v0
  let v18 : BitVec 32 := Scalar.addi v17 v16
  let c50176_i32 : BitVec 32 := 50176#32
  let v19 : BitVec 32 := Scalar.muli v18 c50176_i32
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi arg1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c6272_i32 : BitVec 32 := 6272#32
  let v30 : BitVec 32 := Scalar.muli v29 c6272_i32
  let v31 : BitVec 32 := Scalar.addi v19 v30
  let c0_i32_25 : BitVec 32 := 0#32
  let c0_i32_18 : BitVec 32 := 0#32
  let c1_i32_19 : BitVec 32 := 1#32
  let arg16 : BitVec 32 := Scf.iv c0_i32_18 c1_i32_19 k0_t1
  let c1_i32_24 : BitVec 32 := 1#32
  let v47 : BitVec 32 := Scalar.muli arg16 c1_i32_24
  let v48 : BitVec 32 := Scalar.addi c0_i32_25 v47
  let c896_i32 : BitVec 32 := 896#32
  let v49 : BitVec 32 := Scalar.muli v48 c896_i32
  let v50 : BitVec 32 := Scalar.addi v31 v49
  ![v50.toNat]
@[reducible] def k0_t2_loop : Scf.Loop 32 :=
  let c0_i32_27 : BitVec 32 := 0#32
  let c56_i32 : BitVec 32 := 56#32
  let v53 : BitVec 32 := Scalar.addi c0_i32_27 c56_i32
  let c1_i32_28 : BitVec 32 := 1#32
  ⟨c0_i32_27, v53, c1_i32_28⟩
def k0_off2 (k0_t2 : Fin k0_t2_loop.trips) : Fin 1 → Nat :=
  let c0_i32_33 : BitVec 32 := 0#32
  let c0_i32_27 : BitVec 32 := 0#32
  let c1_i32_28 : BitVec 32 := 1#32
  let arg17 : BitVec 32 := Scf.iv c0_i32_27 c1_i32_28 k0_t2
  let c1_i32_32 : BitVec 32 := 1#32
  let v58 : BitVec 32 := Scalar.muli arg17 c1_i32_32
  let v59 : BitVec 32 := Scalar.addi c0_i32_33 v58
  let c16_i32 : BitVec 32 := 16#32
  let v60 : BitVec 32 := Scalar.muli v59 c16_i32
  let v61 : Index := Scalar.indexCast v60
  ![v61.toNat]
def k0_off3 (k0_t2 : Fin k0_t2_loop.trips) : Fin 2 → Nat :=
  let c0_i32_58 : BitVec 32 := 0#32
  let v136 : Index := Scalar.indexCast c0_i32_58
  let c0_i32_33 : BitVec 32 := 0#32
  let c0_i32_27 : BitVec 32 := 0#32
  let c1_i32_28 : BitVec 32 := 1#32
  let arg17 : BitVec 32 := Scf.iv c0_i32_27 c1_i32_28 k0_t2
  let c1_i32_32 : BitVec 32 := 1#32
  let v58 : BitVec 32 := Scalar.muli arg17 c1_i32_32
  let v59 : BitVec 32 := Scalar.addi c0_i32_33 v58
  let c16_i32 : BitVec 32 := 16#32
  let v60 : BitVec 32 := Scalar.muli v59 c16_i32
  let v137 : Index := Scalar.indexCast v60
  ![0, v137.toNat]
def k0_off4 (k0_t2 : Fin k0_t2_loop.trips) : Fin 2 → Nat :=
  let c1_i32_60 : BitVec 32 := 1#32
  let v142 : Index := Scalar.indexCast c1_i32_60
  let c0_i32_33 : BitVec 32 := 0#32
  let c0_i32_27 : BitVec 32 := 0#32
  let c1_i32_28 : BitVec 32 := 1#32
  let arg17 : BitVec 32 := Scf.iv c0_i32_27 c1_i32_28 k0_t2
  let c1_i32_32 : BitVec 32 := 1#32
  let v58 : BitVec 32 := Scalar.muli arg17 c1_i32_32
  let v59 : BitVec 32 := Scalar.addi c0_i32_33 v58
  let c16_i32 : BitVec 32 := 16#32
  let v60 : BitVec 32 := Scalar.muli v59 c16_i32
  let v143 : Index := Scalar.indexCast v60
  ![1, v143.toNat]
def k0_off5 (k0_t2 : Fin k0_t2_loop.trips) : Fin 2 → Nat :=
  let c0_i32_61 : BitVec 32 := 0#32
  let v146 : Index := Scalar.indexCast c0_i32_61
  let c0_i32_33 : BitVec 32 := 0#32
  let c0_i32_27 : BitVec 32 := 0#32
  let c1_i32_28 : BitVec 32 := 1#32
  let arg17 : BitVec 32 := Scf.iv c0_i32_27 c1_i32_28 k0_t2
  let c1_i32_32 : BitVec 32 := 1#32
  let v58 : BitVec 32 := Scalar.muli arg17 c1_i32_32
  let v59 : BitVec 32 := Scalar.addi c0_i32_33 v58
  let c16_i32 : BitVec 32 := 16#32
  let v60 : BitVec 32 := Scalar.muli v59 c16_i32
  let v147 : Index := Scalar.indexCast v60
  ![0, v147.toNat]
def k0_off6 (k0_t2 : Fin k0_t2_loop.trips) : Fin 2 → Nat :=
  let c1_i32_62 : BitVec 32 := 1#32
  let v150 : Index := Scalar.indexCast c1_i32_62
  let c0_i32_33 : BitVec 32 := 0#32
  let c0_i32_27 : BitVec 32 := 0#32
  let c1_i32_28 : BitVec 32 := 1#32
  let arg17 : BitVec 32 := Scf.iv c0_i32_27 c1_i32_28 k0_t2
  let c1_i32_32 : BitVec 32 := 1#32
  let v58 : BitVec 32 := Scalar.muli arg17 c1_i32_32
  let v59 : BitVec 32 := Scalar.addi c0_i32_33 v58
  let c16_i32 : BitVec 32 := 16#32
  let v60 : BitVec 32 := Scalar.muli v59 c16_i32
  let v151 : Index := Scalar.indexCast v60
  ![1, v151.toNat]
def k0_off7 (k0_t2 : Fin k0_t2_loop.trips) : Fin 2 → Nat :=
  let c2_i32_63 : BitVec 32 := 2#32
  let v154 : Index := Scalar.indexCast c2_i32_63
  let c0_i32_33 : BitVec 32 := 0#32
  let c0_i32_27 : BitVec 32 := 0#32
  let c1_i32_28 : BitVec 32 := 1#32
  let arg17 : BitVec 32 := Scf.iv c0_i32_27 c1_i32_28 k0_t2
  let c1_i32_32 : BitVec 32 := 1#32
  let v58 : BitVec 32 := Scalar.muli arg17 c1_i32_32
  let v59 : BitVec 32 := Scalar.addi c0_i32_33 v58
  let c16_i32 : BitVec 32 := 16#32
  let v60 : BitVec 32 := Scalar.muli v59 c16_i32
  let v155 : Index := Scalar.indexCast v60
  ![2, v155.toNat]
def k0_off8 (k0_t2 : Fin k0_t2_loop.trips) : Fin 2 → Nat :=
  let c3_i32 : BitVec 32 := 3#32
  let v158 : Index := Scalar.indexCast c3_i32
  let c0_i32_33 : BitVec 32 := 0#32
  let c0_i32_27 : BitVec 32 := 0#32
  let c1_i32_28 : BitVec 32 := 1#32
  let arg17 : BitVec 32 := Scf.iv c0_i32_27 c1_i32_28 k0_t2
  let c1_i32_32 : BitVec 32 := 1#32
  let v58 : BitVec 32 := Scalar.muli arg17 c1_i32_32
  let v59 : BitVec 32 := Scalar.addi c0_i32_33 v58
  let c16_i32 : BitVec 32 := 16#32
  let v60 : BitVec 32 := Scalar.muli v59 c16_i32
  let v159 : Index := Scalar.indexCast v60
  ![3, v159.toNat]
def k0_off9 (i : grid0.Coords) (k0_t1 : Fin k0_t1_loop.trips) : Fin 2 → Nat :=
  let c0_i32_32_r2 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let v0 : BitVec 32 := Scalar.divsi arg1 c8_i32
  let c1_i32 : BitVec 32 := 1#32
  let v15 : BitVec 32 := Scalar.subi v0 c1_i32
  let v16 : BitVec 32 := Scalar.select v14 v15 v0
  let c50176_i32_10 : BitVec 32 := 50176#32
  let v32 : BitVec 32 := Scalar.muli v16 c50176_i32_10
  let c8_i32_11 : BitVec 32 := 8#32
  let c0_i32_12 : BitVec 32 := 0#32
  let v33 : BitVec 1 := Scalar.cmpi .eq c8_i32_11 c0_i32_12
  let c1_i32_13 : BitVec 32 := 1#32
  let v34 : BitVec 32 := Scalar.select v33 c1_i32_13 c8_i32_11
  let v35 : BitVec 32 := Scalar.remsi arg1 v34
  let c0_i32_15 : BitVec 32 := 0#32
  let v37 : BitVec 1 := Scalar.cmpi .slt v35 c0_i32_15
  let c0_i32_16 : BitVec 32 := 0#32
  let v38 : BitVec 1 := Scalar.cmpi .slt v34 c0_i32_16
  let v39 : BitVec 1 := Scalar.xori v37 v38
  let c0_i32_14 : BitVec 32 := 0#32
  let v36 : BitVec 1 := Scalar.cmpi .ne v35 c0_i32_14
  let v40 : BitVec 1 := Scalar.andi v39 v36
  let v41 : BitVec 32 := Scalar.addi v35 v34
  let v42 : BitVec 32 := Scalar.select v40 v41 v35
  let c6272_i32_17 : BitVec 32 := 6272#32
  let v43 : BitVec 32 := Scalar.muli v42 c6272_i32_17
  let v44 : BitVec 32 := Scalar.addi v32 v43
  let c0_i32_25 : BitVec 32 := 0#32
  let c0_i32_18 : BitVec 32 := 0#32
  let c1_i32_19 : BitVec 32 := 1#32
  let arg16 : BitVec 32 := Scf.iv c0_i32_18 c1_i32_19 k0_t1
  let c1_i32_24 : BitVec 32 := 1#32
  let v47 : BitVec 32 := Scalar.muli arg16 c1_i32_24
  let v48 : BitVec 32 := Scalar.addi c0_i32_25 v47
  let c896_i32_30 : BitVec 32 := 896#32
  let v54 : BitVec 32 := Scalar.muli v48 c896_i32_30
  let v55 : BitVec 32 := Scalar.addi v44 v54
  ![0, v55.toNat]
def k0_off10 (i : grid0.Coords) (k0_t1 : Fin k0_t1_loop.trips) : Fin 2 → Nat :=
  let c0_i32_32_r3 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let v0 : BitVec 32 := Scalar.divsi arg1 c8_i32
  let c1_i32 : BitVec 32 := 1#32
  let v15 : BitVec 32 := Scalar.subi v0 c1_i32
  let v16 : BitVec 32 := Scalar.select v14 v15 v0
  let c50176_i32_10 : BitVec 32 := 50176#32
  let v32 : BitVec 32 := Scalar.muli v16 c50176_i32_10
  let c8_i32_11 : BitVec 32 := 8#32
  let c0_i32_12 : BitVec 32 := 0#32
  let v33 : BitVec 1 := Scalar.cmpi .eq c8_i32_11 c0_i32_12
  let c1_i32_13 : BitVec 32 := 1#32
  let v34 : BitVec 32 := Scalar.select v33 c1_i32_13 c8_i32_11
  let v35 : BitVec 32 := Scalar.remsi arg1 v34
  let c0_i32_15 : BitVec 32 := 0#32
  let v37 : BitVec 1 := Scalar.cmpi .slt v35 c0_i32_15
  let c0_i32_16 : BitVec 32 := 0#32
  let v38 : BitVec 1 := Scalar.cmpi .slt v34 c0_i32_16
  let v39 : BitVec 1 := Scalar.xori v37 v38
  let c0_i32_14 : BitVec 32 := 0#32
  let v36 : BitVec 1 := Scalar.cmpi .ne v35 c0_i32_14
  let v40 : BitVec 1 := Scalar.andi v39 v36
  let v41 : BitVec 32 := Scalar.addi v35 v34
  let v42 : BitVec 32 := Scalar.select v40 v41 v35
  let c6272_i32_17 : BitVec 32 := 6272#32
  let v43 : BitVec 32 := Scalar.muli v42 c6272_i32_17
  let v44 : BitVec 32 := Scalar.addi v32 v43
  let c0_i32_25 : BitVec 32 := 0#32
  let c0_i32_18 : BitVec 32 := 0#32
  let c1_i32_19 : BitVec 32 := 1#32
  let arg16 : BitVec 32 := Scf.iv c0_i32_18 c1_i32_19 k0_t1
  let c1_i32_24 : BitVec 32 := 1#32
  let v47 : BitVec 32 := Scalar.muli arg16 c1_i32_24
  let v48 : BitVec 32 := Scalar.addi c0_i32_25 v47
  let c896_i32_31 : BitVec 32 := 896#32
  let v56 : BitVec 32 := Scalar.muli v48 c896_i32_31
  let v57 : BitVec 32 := Scalar.addi v44 v56
  ![0, v57.toNat]
@[reducible] def k0_t3_loop : Scf.Loop 32 :=
  let c0_i32_21 : BitVec 32 := 0#32
  let c12_i32 : BitVec 32 := 12#32
  let v46 : BitVec 32 := Scalar.addi c0_i32_21 c12_i32
  let c1_i32_22 : BitVec 32 := 1#32
  ⟨c0_i32_21, v46, c1_i32_22⟩
def k0_off11 (i : grid0.Coords) (k0_t3 : Fin k0_t3_loop.trips) : Fin 1 → Nat :=
  let c2_i32_39 : BitVec 32 := 2#32
  let arg0 : BitVec 32 := BitVec.ofNat 32 (i 0).val
  let v78 : BitVec 32 := Scalar.muli c2_i32_39 arg0
  let c0_i32_25 : BitVec 32 := 0#32
  let c0_i32_21 : BitVec 32 := 0#32
  let c1_i32_22 : BitVec 32 := 1#32
  let arg16 : BitVec 32 := Scf.iv c0_i32_21 c1_i32_22 k0_t3
  let c1_i32_24 : BitVec 32 := 1#32
  let v47 : BitVec 32 := Scalar.muli arg16 c1_i32_24
  let v48 : BitVec 32 := Scalar.addi c0_i32_25 v47
  let c0_i32_26 : BitVec 32 := 0#32
  let v50 : BitVec 1 := Scalar.cmpi .sgt v48 c0_i32_26
  let v51 : BitVec 32 := Scalar.extui v50
  let c0_i32_27 : BitVec 32 := 0#32
  let v52 : BitVec 1 := Scalar.cmpi .slt v48 c0_i32_27
  let v53 : BitVec 32 := Scalar.extui v52
  let v54 : BitVec 32 := Scalar.subi v51 v53
  let c6_i32 : BitVec 32 := 6#32
  let c0_i32_28 : BitVec 32 := 0#32
  let v55 : BitVec 1 := Scalar.cmpi .sgt c6_i32 c0_i32_28
  let v56 : BitVec 32 := Scalar.extui v55
  let c0_i32_29 : BitVec 32 := 0#32
  let v57 : BitVec 1 := Scalar.cmpi .slt c6_i32 c0_i32_29
  let v58 : BitVec 32 := Scalar.extui v57
  let v59 : BitVec 32 := Scalar.subi v56 v58
  let v60 : BitVec 1 := Scalar.cmpi .ne v54 v59
  let v61 : BitVec 32 := Scalar.remsi v48 c6_i32
  let c0_i32_30 : BitVec 32 := 0#32
  let v62 : BitVec 1 := Scalar.cmpi .ne v61 c0_i32_30
  let v63 : BitVec 1 := Scalar.andi v60 v62
  let v49 : BitVec 32 := Scalar.divsi v48 c6_i32
  let c1_i32_31 : BitVec 32 := 1#32
  let v64 : BitVec 32 := Scalar.subi v49 c1_i32_31
  let v65 : BitVec 32 := Scalar.select v63 v64 v49
  let v79 : BitVec 32 := Scalar.addi v78 v65
  let c96_i32 : BitVec 32 := 96#32
  let v80 : BitVec 32 := Scalar.muli v79 c96_i32
  let arg1 : BitVec 32 := BitVec.ofNat 32 (i 1).val
  let c6_i32_32 : BitVec 32 := 6#32
  let v66 : BitVec 32 := Scalar.muli arg1 c6_i32_32
  let c6_i32_33 : BitVec 32 := 6#32
  let c0_i32_34 : BitVec 32 := 0#32
  let v67 : BitVec 1 := Scalar.cmpi .eq c6_i32_33 c0_i32_34
  let c1_i32_35 : BitVec 32 := 1#32
  let v68 : BitVec 32 := Scalar.select v67 c1_i32_35 c6_i32_33
  let v69 : BitVec 32 := Scalar.remsi v48 v68
  let c0_i32_37 : BitVec 32 := 0#32
  let v71 : BitVec 1 := Scalar.cmpi .slt v69 c0_i32_37
  let c0_i32_38 : BitVec 32 := 0#32
  let v72 : BitVec 1 := Scalar.cmpi .slt v68 c0_i32_38
  let v73 : BitVec 1 := Scalar.xori v71 v72
  let c0_i32_36 : BitVec 32 := 0#32
  let v70 : BitVec 1 := Scalar.cmpi .ne v69 c0_i32_36
  let v74 : BitVec 1 := Scalar.andi v73 v70
  let v75 : BitVec 32 := Scalar.addi v69 v68
  let v76 : BitVec 32 := Scalar.select v74 v75 v69
  let v77 : BitVec 32 := Scalar.addi v66 v76
  let v81 : BitVec 32 := Scalar.addi v80 v77
  let c50176_i32_40 : BitVec 32 := 50176#32
  let v82 : BitVec 32 := Scalar.muli v81 c50176_i32_40
  ![v82.toNat]
@[reducible] def k0_t4_loop : Scf.Loop 32 :=
  let c0_i32_41 : BitVec 32 := 0#32
  let c14_i32 : BitVec 32 := 14#32
  let v83 : BitVec 32 := Scalar.addi c0_i32_41 c14_i32
  let c1_i32_42 : BitVec 32 := 1#32
  ⟨c0_i32_41, v83, c1_i32_42⟩
def k0_off12 (k0_t3 : Fin k0_t3_loop.trips) (k0_t4 : Fin k0_t4_loop.trips) : Fin 2 → Nat :=
  let c0_i32_53_r5 : BitVec 32 := 0#32
  let c0_i32_25 : BitVec 32 := 0#32
  let c0_i32_21 : BitVec 32 := 0#32
  let c1_i32_22 : BitVec 32 := 1#32
  let arg16 : BitVec 32 := Scf.iv c0_i32_21 c1_i32_22 k0_t3
  let c1_i32_24 : BitVec 32 := 1#32
  let v47 : BitVec 32 := Scalar.muli arg16 c1_i32_24
  let v48 : BitVec 32 := Scalar.addi c0_i32_25 v47
  let c0_i32_26 : BitVec 32 := 0#32
  let v50 : BitVec 1 := Scalar.cmpi .sgt v48 c0_i32_26
  let v51 : BitVec 32 := Scalar.extui v50
  let c0_i32_27 : BitVec 32 := 0#32
  let v52 : BitVec 1 := Scalar.cmpi .slt v48 c0_i32_27
  let v53 : BitVec 32 := Scalar.extui v52
  let v54 : BitVec 32 := Scalar.subi v51 v53
  let c6_i32 : BitVec 32 := 6#32
  let c0_i32_28 : BitVec 32 := 0#32
  let v55 : BitVec 1 := Scalar.cmpi .sgt c6_i32 c0_i32_28
  let v56 : BitVec 32 := Scalar.extui v55
  let c0_i32_29 : BitVec 32 := 0#32
  let v57 : BitVec 1 := Scalar.cmpi .slt c6_i32 c0_i32_29
  let v58 : BitVec 32 := Scalar.extui v57
  let v59 : BitVec 32 := Scalar.subi v56 v58
  let v60 : BitVec 1 := Scalar.cmpi .ne v54 v59
  let v61 : BitVec 32 := Scalar.remsi v48 c6_i32
  let c0_i32_30 : BitVec 32 := 0#32
  let v62 : BitVec 1 := Scalar.cmpi .ne v61 c0_i32_30
  let v63 : BitVec 1 := Scalar.andi v60 v62
  let v49 : BitVec 32 := Scalar.divsi v48 c6_i32
  let c1_i32_31 : BitVec 32 := 1#32
  let v64 : BitVec 32 := Scalar.subi v49 c1_i32_31
  let v65 : BitVec 32 := Scalar.select v63 v64 v49
  let c50176_i32_46 : BitVec 32 := 50176#32
  let v86 : BitVec 32 := Scalar.muli v65 c50176_i32_46
  let c0_i32_45 : BitVec 32 := 0#32
  let c0_i32_41 : BitVec 32 := 0#32
  let c1_i32_42 : BitVec 32 := 1#32
  let arg17 : BitVec 32 := Scf.iv c0_i32_41 c1_i32_42 k0_t4
  let c1_i32_44 : BitVec 32 := 1#32
  let v84 : BitVec 32 := Scalar.muli arg17 c1_i32_44
  let v85 : BitVec 32 := Scalar.addi c0_i32_45 v84
  let c3584_i32 : BitVec 32 := 3584#32
  let v87 : BitVec 32 := Scalar.muli v85 c3584_i32
  let v88 : BitVec 32 := Scalar.addi v86 v87
  ![0, v88.toNat]
def k0_off13 (k0_t3 : Fin k0_t3_loop.trips) (k0_t4 : Fin k0_t4_loop.trips) : Fin 2 → Nat :=
  let c0_i32_53_r6 : BitVec 32 := 0#32
  let c0_i32_25 : BitVec 32 := 0#32
  let c0_i32_21 : BitVec 32 := 0#32
  let c1_i32_22 : BitVec 32 := 1#32
  let arg16 : BitVec 32 := Scf.iv c0_i32_21 c1_i32_22 k0_t3
  let c1_i32_24 : BitVec 32 := 1#32
  let v47 : BitVec 32 := Scalar.muli arg16 c1_i32_24
  let v48 : BitVec 32 := Scalar.addi c0_i32_25 v47
  let c0_i32_26 : BitVec 32 := 0#32
  let v50 : BitVec 1 := Scalar.cmpi .sgt v48 c0_i32_26
  let v51 : BitVec 32 := Scalar.extui v50
  let c0_i32_27 : BitVec 32 := 0#32
  let v52 : BitVec 1 := Scalar.cmpi .slt v48 c0_i32_27
  let v53 : BitVec 32 := Scalar.extui v52
  let v54 : BitVec 32 := Scalar.subi v51 v53
  let c6_i32 : BitVec 32 := 6#32
  let c0_i32_28 : BitVec 32 := 0#32
  let v55 : BitVec 1 := Scalar.cmpi .sgt c6_i32 c0_i32_28
  let v56 : BitVec 32 := Scalar.extui v55
  let c0_i32_29 : BitVec 32 := 0#32
  let v57 : BitVec 1 := Scalar.cmpi .slt c6_i32 c0_i32_29
  let v58 : BitVec 32 := Scalar.extui v57
  let v59 : BitVec 32 := Scalar.subi v56 v58
  let v60 : BitVec 1 := Scalar.cmpi .ne v54 v59
  let v61 : BitVec 32 := Scalar.remsi v48 c6_i32
  let c0_i32_30 : BitVec 32 := 0#32
  let v62 : BitVec 1 := Scalar.cmpi .ne v61 c0_i32_30
  let v63 : BitVec 1 := Scalar.andi v60 v62
  let v49 : BitVec 32 := Scalar.divsi v48 c6_i32
  let c1_i32_31 : BitVec 32 := 1#32
  let v64 : BitVec 32 := Scalar.subi v49 c1_i32_31
  let v65 : BitVec 32 := Scalar.select v63 v64 v49
  let c50176_i32_47 : BitVec 32 := 50176#32
  let v89 : BitVec 32 := Scalar.muli v65 c50176_i32_47
  let c0_i32_45 : BitVec 32 := 0#32
  let c0_i32_41 : BitVec 32 := 0#32
  let c1_i32_42 : BitVec 32 := 1#32
  let arg17 : BitVec 32 := Scf.iv c0_i32_41 c1_i32_42 k0_t4
  let c1_i32_44 : BitVec 32 := 1#32
  let v84 : BitVec 32 := Scalar.muli arg17 c1_i32_44
  let v85 : BitVec 32 := Scalar.addi c0_i32_45 v84
  let c3584_i32_48 : BitVec 32 := 3584#32
  let v90 : BitVec 32 := Scalar.muli v85 c3584_i32_48
  let v91 : BitVec 32 := Scalar.addi v89 v90
  ![0, v91.toNat]
@[reducible] def k0_t5_loop : Scf.Loop 32 :=
  let c0_i32_49 : BitVec 32 := 0#32
  let c224_i32 : BitVec 32 := 224#32
  let v92 : BitVec 32 := Scalar.addi c0_i32_49 c224_i32
  let c1_i32_50 : BitVec 32 := 1#32
  ⟨c0_i32_49, v92, c1_i32_50⟩
def k0_off14 (k0_t5 : Fin k0_t5_loop.trips) : Fin 2 → Nat :=
  let c0_i32_55 : BitVec 32 := 0#32
  let v98 : Index := Scalar.indexCast c0_i32_55
  let c0_i32_54 : BitVec 32 := 0#32
  let c0_i32_49 : BitVec 32 := 0#32
  let c1_i32_50 : BitVec 32 := 1#32
  let arg18 : BitVec 32 := Scf.iv c0_i32_49 c1_i32_50 k0_t5
  let c1_i32_53 : BitVec 32 := 1#32
  let v95 : BitVec 32 := Scalar.muli arg18 c1_i32_53
  let v96 : BitVec 32 := Scalar.addi c0_i32_54 v95
  let c16_i32 : BitVec 32 := 16#32
  let v97 : BitVec 32 := Scalar.muli v96 c16_i32
  let v99 : Index := Scalar.indexCast v97
  ![0, v99.toNat]
def k0_off15 (k0_t5 : Fin k0_t5_loop.trips) : Fin 2 → Nat :=
  let c1_i32_56 : BitVec 32 := 1#32
  let v101 : Index := Scalar.indexCast c1_i32_56
  let c0_i32_54 : BitVec 32 := 0#32
  let c0_i32_49 : BitVec 32 := 0#32
  let c1_i32_50 : BitVec 32 := 1#32
  let arg18 : BitVec 32 := Scf.iv c0_i32_49 c1_i32_50 k0_t5
  let c1_i32_53 : BitVec 32 := 1#32
  let v95 : BitVec 32 := Scalar.muli arg18 c1_i32_53
  let v96 : BitVec 32 := Scalar.addi c0_i32_54 v95
  let c16_i32 : BitVec 32 := 16#32
  let v97 : BitVec 32 := Scalar.muli v96 c16_i32
  let v102 : Index := Scalar.indexCast v97
  ![1, v102.toNat]

def k0_chk1 (v100 : IVec S16 32) : Prop :=
  (∀ a x, ((![v100] : Fin 1 → IVec S16 32) a x).toNat < S50176.size a)
theorem k0_idx1_inb : ∀ (v100 : IVec S16 32) (k0_hw1 : k0_chk1 v100), ∀ a x, ((![v100] : Fin 1 → IVec S16 32) a x).toNat < S50176.size a := fun v100 k0_hw1 => k0_hw1

def k0_chk2 (v108 : IVec S16 32) : Prop :=
  (∀ a x, ((![v108] : Fin 1 → IVec S16 32) a x).toNat < S50176.size a)
theorem k0_idx2_inb : ∀ (v108 : IVec S16 32) (k0_hw2 : k0_chk2 v108), ∀ a x, ((![v108] : Fin 1 → IVec S16 32) a x).toNat < S50176.size a := fun v108 k0_hw2 => k0_hw2

def k0_chk3 (v110 : IVec S16 32) : Prop :=
  (∀ a x, ((![v110] : Fin 1 → IVec S16 32) a x).toNat < S50176.size a)
theorem k0_idx3_inb : ∀ (v110 : IVec S16 32) (k0_hw3 : k0_chk3 v110), ∀ a x, ((![v110] : Fin 1 → IVec S16 32) a x).toNat < S50176.size a := fun v110 k0_hw3 => k0_hw3

def k0_chk4 (v103 : IVec S16 32) : Prop :=
  (∀ a x, ((![v103] : Fin 1 → IVec S16 32) a x).toNat < S50176.size a)
theorem k0_idx4_inb : ∀ (v103 : IVec S16 32) (k0_hw4 : k0_chk4 v103), ∀ a x, ((![v103] : Fin 1 → IVec S16 32) a x).toNat < S50176.size a := fun v103 k0_hw4 => k0_hw4
def k0_off16 (k0_t5 : Fin k0_t5_loop.trips) : Fin 2 → Nat :=
  let c0_i32_58 : BitVec 32 := 0#32
  let v113 : Index := Scalar.indexCast c0_i32_58
  let c0_i32_54 : BitVec 32 := 0#32
  let c0_i32_49 : BitVec 32 := 0#32
  let c1_i32_50 : BitVec 32 := 1#32
  let arg18 : BitVec 32 := Scf.iv c0_i32_49 c1_i32_50 k0_t5
  let c1_i32_53 : BitVec 32 := 1#32
  let v95 : BitVec 32 := Scalar.muli arg18 c1_i32_53
  let v96 : BitVec 32 := Scalar.addi c0_i32_54 v95
  let c16_i32 : BitVec 32 := 16#32
  let v97 : BitVec 32 := Scalar.muli v96 c16_i32
  let v114 : Index := Scalar.indexCast v97
  ![0, v114.toNat]
def k0_off17 (k0_t5 : Fin k0_t5_loop.trips) : Fin 2 → Nat :=
  let c1_i32_59 : BitVec 32 := 1#32
  let v117 : Index := Scalar.indexCast c1_i32_59
  let c0_i32_54 : BitVec 32 := 0#32
  let c0_i32_49 : BitVec 32 := 0#32
  let c1_i32_50 : BitVec 32 := 1#32
  let arg18 : BitVec 32 := Scf.iv c0_i32_49 c1_i32_50 k0_t5
  let c1_i32_53 : BitVec 32 := 1#32
  let v95 : BitVec 32 := Scalar.muli arg18 c1_i32_53
  let v96 : BitVec 32 := Scalar.addi c0_i32_54 v95
  let c16_i32 : BitVec 32 := 16#32
  let v97 : BitVec 32 := Scalar.muli v96 c16_i32
  let v118 : Index := Scalar.indexCast v97
  ![1, v118.toNat]
def k0_off18 (k0_t5 : Fin k0_t5_loop.trips) : Fin 2 → Nat :=
  let c2_i32_60 : BitVec 32 := 2#32
  let v122 : Index := Scalar.indexCast c2_i32_60
  let c0_i32_54 : BitVec 32 := 0#32
  let c0_i32_49 : BitVec 32 := 0#32
  let c1_i32_50 : BitVec 32 := 1#32
  let arg18 : BitVec 32 := Scf.iv c0_i32_49 c1_i32_50 k0_t5
  let c1_i32_53 : BitVec 32 := 1#32
  let v95 : BitVec 32 := Scalar.muli arg18 c1_i32_53
  let v96 : BitVec 32 := Scalar.addi c0_i32_54 v95
  let c16_i32 : BitVec 32 := 16#32
  let v97 : BitVec 32 := Scalar.muli v96 c16_i32
  let v123 : Index := Scalar.indexCast v97
  ![2, v123.toNat]
def k0_off19 (k0_t5 : Fin k0_t5_loop.trips) : Fin 2 → Nat :=
  let c3_i32 : BitVec 32 := 3#32
  let v127 : Index := Scalar.indexCast c3_i32
  let c0_i32_54 : BitVec 32 := 0#32
  let c0_i32_49 : BitVec 32 := 0#32
  let c1_i32_50 : BitVec 32 := 1#32
  let arg18 : BitVec 32 := Scf.iv c0_i32_49 c1_i32_50 k0_t5
  let c1_i32_53 : BitVec 32 := 1#32
  let v95 : BitVec 32 := Scalar.muli arg18 c1_i32_53
  let v96 : BitVec 32 := Scalar.addi c0_i32_54 v95
  let c16_i32 : BitVec 32 := 16#32
  let v97 : BitVec 32 := Scalar.muli v96 c16_i32
  let v128 : Index := Scalar.indexCast v97
  ![3, v128.toNat]
def k0_off20 (k0_t5 : Fin k0_t5_loop.trips) : Fin 1 → Nat :=
  let c0_i32_54 : BitVec 32 := 0#32
  let c0_i32_49 : BitVec 32 := 0#32
  let c1_i32_50 : BitVec 32 := 1#32
  let arg18 : BitVec 32 := Scf.iv c0_i32_49 c1_i32_50 k0_t5
  let c1_i32_53 : BitVec 32 := 1#32
  let v95 : BitVec 32 := Scalar.muli arg18 c1_i32_53
  let v96 : BitVec 32 := Scalar.addi c0_i32_54 v95
  let c16_i32 : BitVec 32 := 16#32
  let v97 : BitVec 32 := Scalar.muli v96 c16_i32
  let v132 : Index := Scalar.indexCast v97
  ![v132.toNat]
def k0_off21 (i : grid0.Coords) (k0_t3 : Fin k0_t3_loop.trips) (k0_t4 : Fin k0_t4_loop.trips) : Fin 1 → Nat :=
  let c2_i32_39 : BitVec 32 := 2#32
  let arg0 : BitVec 32 := BitVec.ofNat 32 (i 0).val
  let v78 : BitVec 32 := Scalar.muli c2_i32_39 arg0
  let c0_i32_25 : BitVec 32 := 0#32
  let c0_i32_21 : BitVec 32 := 0#32
  let c1_i32_22 : BitVec 32 := 1#32
  let arg16 : BitVec 32 := Scf.iv c0_i32_21 c1_i32_22 k0_t3
  let c1_i32_24 : BitVec 32 := 1#32
  let v47 : BitVec 32 := Scalar.muli arg16 c1_i32_24
  let v48 : BitVec 32 := Scalar.addi c0_i32_25 v47
  let c0_i32_26 : BitVec 32 := 0#32
  let v50 : BitVec 1 := Scalar.cmpi .sgt v48 c0_i32_26
  let v51 : BitVec 32 := Scalar.extui v50
  let c0_i32_27 : BitVec 32 := 0#32
  let v52 : BitVec 1 := Scalar.cmpi .slt v48 c0_i32_27
  let v53 : BitVec 32 := Scalar.extui v52
  let v54 : BitVec 32 := Scalar.subi v51 v53
  let c6_i32 : BitVec 32 := 6#32
  let c0_i32_28 : BitVec 32 := 0#32
  let v55 : BitVec 1 := Scalar.cmpi .sgt c6_i32 c0_i32_28
  let v56 : BitVec 32 := Scalar.extui v55
  let c0_i32_29 : BitVec 32 := 0#32
  let v57 : BitVec 1 := Scalar.cmpi .slt c6_i32 c0_i32_29
  let v58 : BitVec 32 := Scalar.extui v57
  let v59 : BitVec 32 := Scalar.subi v56 v58
  let v60 : BitVec 1 := Scalar.cmpi .ne v54 v59
  let v61 : BitVec 32 := Scalar.remsi v48 c6_i32
  let c0_i32_30 : BitVec 32 := 0#32
  let v62 : BitVec 1 := Scalar.cmpi .ne v61 c0_i32_30
  let v63 : BitVec 1 := Scalar.andi v60 v62
  let v49 : BitVec 32 := Scalar.divsi v48 c6_i32
  let c1_i32_31 : BitVec 32 := 1#32
  let v64 : BitVec 32 := Scalar.subi v49 c1_i32_31
  let v65 : BitVec 32 := Scalar.select v63 v64 v49
  let v79 : BitVec 32 := Scalar.addi v78 v65
  let c96_i32 : BitVec 32 := 96#32
  let v80 : BitVec 32 := Scalar.muli v79 c96_i32
  let arg1 : BitVec 32 := BitVec.ofNat 32 (i 1).val
  let c6_i32_32 : BitVec 32 := 6#32
  let v66 : BitVec 32 := Scalar.muli arg1 c6_i32_32
  let c6_i32_33 : BitVec 32 := 6#32
  let c0_i32_34 : BitVec 32 := 0#32
  let v67 : BitVec 1 := Scalar.cmpi .eq c6_i32_33 c0_i32_34
  let c1_i32_35 : BitVec 32 := 1#32
  let v68 : BitVec 32 := Scalar.select v67 c1_i32_35 c6_i32_33
  let v69 : BitVec 32 := Scalar.remsi v48 v68
  let c0_i32_37 : BitVec 32 := 0#32
  let v71 : BitVec 1 := Scalar.cmpi .slt v69 c0_i32_37
  let c0_i32_38 : BitVec 32 := 0#32
  let v72 : BitVec 1 := Scalar.cmpi .slt v68 c0_i32_38
  let v73 : BitVec 1 := Scalar.xori v71 v72
  let c0_i32_36 : BitVec 32 := 0#32
  let v70 : BitVec 1 := Scalar.cmpi .ne v69 c0_i32_36
  let v74 : BitVec 1 := Scalar.andi v73 v70
  let v75 : BitVec 32 := Scalar.addi v69 v68
  let v76 : BitVec 32 := Scalar.select v74 v75 v69
  let v77 : BitVec 32 := Scalar.addi v66 v76
  let v81 : BitVec 32 := Scalar.addi v80 v77
  let c50176_i32_40 : BitVec 32 := 50176#32
  let v82 : BitVec 32 := Scalar.muli v81 c50176_i32_40
  let c0_i32_45 : BitVec 32 := 0#32
  let c0_i32_41 : BitVec 32 := 0#32
  let c1_i32_42 : BitVec 32 := 1#32
  let arg17 : BitVec 32 := Scf.iv c0_i32_41 c1_i32_42 k0_t4
  let c1_i32_44 : BitVec 32 := 1#32
  let v84 : BitVec 32 := Scalar.muli arg17 c1_i32_44
  let v85 : BitVec 32 := Scalar.addi c0_i32_45 v84
  let c3584_i32_52 : BitVec 32 := 3584#32
  let v93 : BitVec 32 := Scalar.muli v85 c3584_i32_52
  let v94 : BitVec 32 := Scalar.addi v82 v93
  ![v94.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x50176x2 : Shape := ⟨3, ![4, 50176, 2]⟩
abbrev S4x96x224x224 : Shape := ⟨4, ![4, 96, 224, 224]⟩
abbrev S2 : Shape := ⟨1, ![2]⟩
abbrev S4x224x224x2 : Shape := ⟨4, ![4, 224, 224, 2]⟩
abbrev S_ : Shape := ⟨0, ![]⟩
abbrev S223 : Shape := ⟨1, ![223]⟩
abbrev S1 : Shape := ⟨1, ![1]⟩
abbrev S224 : Shape := ⟨1, ![224]⟩
abbrev S224x224 : Shape := ⟨2, ![224, 224]⟩
abbrev S224x224x1 : Shape := ⟨3, ![224, 224, 1]⟩
abbrev S224x224x2 : Shape := ⟨3, ![224, 224, 2]⟩
abbrev S1x224x224x2 : Shape := ⟨4, ![1, 224, 224, 2]⟩
abbrev S1x1x1x2 : Shape := ⟨4, ![1, 1, 1, 2]⟩
abbrev S4x224x224x1 : Shape := ⟨4, ![4, 224, 224, 1]⟩
abbrev S4x224x224 : Shape := ⟨3, ![4, 224, 224]⟩
abbrev S4x1x224x224 : Shape := ⟨4, ![4, 1, 224, 224]⟩

abbrev nBuf : Space → Nat
  | .hbm => 341
  | .vmem => 0
  | .smem => 0
  | _ => 0

abbrev hbmTy0_0 (i : Nat) : BufTy := match i % 128 with
  | 0 => ⟨S4x50176x2, .f32⟩
  | 1 => ⟨S4x96x224x224, .f32⟩
  | 2 => ⟨S2, .f32⟩
  | 3 => ⟨S4x224x224x2, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S223, .f32⟩
  | 12 => ⟨S_, .f32⟩
  | 13 => ⟨S223, .f32⟩
  | 14 => ⟨S223, .f32⟩
  | 15 => ⟨S1, .f32⟩
  | 16 => ⟨S_, .f32⟩
  | 17 => ⟨S223, .f32⟩
  | 18 => ⟨S223, .f32⟩
  | 19 => ⟨S223, .f32⟩
  | 20 => ⟨S223, .f32⟩
  | 21 => ⟨S1, .f32⟩
  | 22 => ⟨S223, .f32⟩
  | 23 => ⟨S223, .f32⟩
  | 24 => ⟨S223, .f32⟩
  | 25 => ⟨S1, .f32⟩
  | 26 => ⟨S224, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S223, .f32⟩
  | 35 => ⟨S_, .f32⟩
  | 36 => ⟨S223, .f32⟩
  | 37 => ⟨S223, .f32⟩
  | 38 => ⟨S1, .f32⟩
  | 39 => ⟨S_, .f32⟩
  | 40 => ⟨S223, .f32⟩
  | 41 => ⟨S223, .f32⟩
  | 42 => ⟨S223, .f32⟩
  | 43 => ⟨S223, .f32⟩
  | 44 => ⟨S1, .f32⟩
  | 45 => ⟨S223, .f32⟩
  | 46 => ⟨S223, .f32⟩
  | 47 => ⟨S223, .f32⟩
  | 48 => ⟨S1, .f32⟩
  | 49 => ⟨S224, .f32⟩
  | 50 => ⟨S224x224, .f32⟩
  | 51 => ⟨S224x224, .f32⟩
  | 52 => ⟨S224x224x1, .f32⟩
  | 53 => ⟨S224x224x1, .f32⟩
  | 54 => ⟨S224x224x2, .f32⟩
  | 55 => ⟨S1x224x224x2, .f32⟩
  | 56 => ⟨S4x224x224x2, .f32⟩
  | 57 => ⟨S1x1x1x2, .f32⟩
  | 58 => ⟨S4x224x224x2, .f32⟩
  | 59 => ⟨S4x224x224x2, .f32⟩
  | 60 => ⟨S_, .f32⟩
  | 61 => ⟨S4x224x224x2, .f32⟩
  | 62 => ⟨S4x224x224x2, .f32⟩
  | 63 => ⟨S4x224x224x2, .f32⟩
  | 64 => ⟨S4x224x224x1, .f32⟩
  | 65 => ⟨S4x224x224, .f32⟩
  | 66 => ⟨S_, .f32⟩
  | 67 => ⟨S4x224x224, .f32⟩
  | 68 => ⟨S4x224x224, .f32⟩
  | 69 => ⟨S_, .f32⟩
  | 70 => ⟨S4x224x224, .f32⟩
  | 71 => ⟨S4x224x224, .f32⟩
  | 72 => ⟨S_, .f32⟩
  | 73 => ⟨S4x224x224, .f32⟩
  | 74 => ⟨S4x224x224, .f32⟩
  | 75 => ⟨S4x224x224x1, .f32⟩
  | 76 => ⟨S4x224x224, .f32⟩
  | 77 => ⟨S_, .f32⟩
  | 78 => ⟨S4x224x224, .f32⟩
  | 79 => ⟨S4x224x224, .f32⟩
  | 80 => ⟨S_, .f32⟩
  | 81 => ⟨S4x224x224, .f32⟩
  | 82 => ⟨S4x224x224, .f32⟩
  | 83 => ⟨S_, .f32⟩
  | 84 => ⟨S4x224x224, .f32⟩
  | 85 => ⟨S4x224x224, .f32⟩
  | 86 => ⟨S4x224x224, .f32⟩
  | 87 => ⟨S_, .f32⟩
  | 88 => ⟨S4x224x224, .f32⟩
  | 89 => ⟨S4x224x224, .f32⟩
  | 90 => ⟨S4x224x224, .f32⟩
  | 91 => ⟨S_, .f32⟩
  | 92 => ⟨S4x224x224, .f32⟩
  | 93 => ⟨S4x224x224, .f32⟩
  | 94 => ⟨S4x224x224, .f32⟩
  | 95 => ⟨S_, .f32⟩
  | 96 => ⟨S4x224x224, .f32⟩
  | 97 => ⟨S4x224x224, .f32⟩
  | 98 => ⟨S4x224x224, .f32⟩
  | 99 => ⟨S_, .f32⟩
  | 100 => ⟨S4x224x224, .f32⟩
  | 101 => ⟨S4x224x224, .f32⟩
  | 102 => ⟨S_, .f32⟩
  | 103 => ⟨S4x224x224, .f32⟩
  | 104 => ⟨S4x224x224, .i1⟩
  | 105 => ⟨S_, .f32⟩
  | 106 => ⟨S4x224x224, .f32⟩
  | 107 => ⟨S4x224x224, .i1⟩
  | 108 => ⟨S4x224x224, .i1⟩
  | 109 => ⟨S_, .f32⟩
  | 110 => ⟨S4x224x224, .f32⟩
  | 111 => ⟨S4x224x224, .i1⟩
  | 112 => ⟨S4x224x224, .i1⟩
  | 113 => ⟨S_, .f32⟩
  | 114 => ⟨S4x224x224, .f32⟩
  | 115 => ⟨S4x224x224, .i1⟩
  | 116 => ⟨S4x224x224, .i1⟩
  | 117 => ⟨S_, .i32⟩
  | 118 => ⟨S_, .i32⟩
  | 119 => ⟨S_, .f32⟩
  | 120 => ⟨S4x224x224, .f32⟩
  | 121 => ⟨S4x224x224, .f32⟩
  | 122 => ⟨S_, .f32⟩
  | 123 => ⟨S4x224x224, .f32⟩
  | 124 => ⟨S4x224x224, .f32⟩
  | 125 => ⟨S4x224x224, .i32⟩
  | 126 => ⟨S_, .i32⟩
  | 127 => ⟨S_, .i32⟩
  | _ => ⟨S4x50176x2, .f32⟩

abbrev hbmTy0_1 (i : Nat) : BufTy := match i % 128 with
  | 0 => ⟨S_, .f32⟩
  | 1 => ⟨S4x224x224, .f32⟩
  | 2 => ⟨S4x224x224, .f32⟩
  | 3 => ⟨S_, .f32⟩
  | 4 => ⟨S4x224x224, .f32⟩
  | 5 => ⟨S4x224x224, .f32⟩
  | 6 => ⟨S4x224x224, .i32⟩
  | 7 => ⟨S_, .i32⟩
  | 8 => ⟨S4x224x224, .i32⟩
  | 9 => ⟨S4x224x224, .i1⟩
  | 10 => ⟨S_, .i32⟩
  | 11 => ⟨S4x224x224, .i32⟩
  | 12 => ⟨S4x224x224, .i32⟩
  | 13 => ⟨S4x224x224, .i32⟩
  | 14 => ⟨S_, .i32⟩
  | 15 => ⟨S4x224x224, .i32⟩
  | 16 => ⟨S4x224x224, .i1⟩
  | 17 => ⟨S_, .i32⟩
  | 18 => ⟨S4x224x224, .i32⟩
  | 19 => ⟨S4x224x224, .i32⟩
  | 20 => ⟨S4x224x224, .i32⟩
  | 21 => ⟨S4x224x224x1, .i32⟩
  | 22 => ⟨S4x224x224x1, .i32⟩
  | 23 => ⟨S4x224x224x2, .i32⟩
  | 24 => ⟨S4x96x224x224, .f32⟩
  | 25 => ⟨S4x224x224, .f32⟩
  | 26 => ⟨S4x1x224x224, .f32⟩
  | 27 => ⟨S4x96x224x224, .f32⟩
  | 28 => ⟨S4x96x224x224, .f32⟩
  | 29 => ⟨S4x224x224, .f32⟩
  | 30 => ⟨S4x1x224x224, .f32⟩
  | 31 => ⟨S4x96x224x224, .f32⟩
  | 32 => ⟨S4x96x224x224, .f32⟩
  | 33 => ⟨S_, .f32⟩
  | 34 => ⟨S4x224x224, .f32⟩
  | 35 => ⟨S4x224x224, .i1⟩
  | 36 => ⟨S_, .f32⟩
  | 37 => ⟨S4x224x224, .f32⟩
  | 38 => ⟨S4x224x224, .i1⟩
  | 39 => ⟨S4x224x224, .i1⟩
  | 40 => ⟨S_, .f32⟩
  | 41 => ⟨S4x224x224, .f32⟩
  | 42 => ⟨S4x224x224, .i1⟩
  | 43 => ⟨S4x224x224, .i1⟩
  | 44 => ⟨S_, .f32⟩
  | 45 => ⟨S4x224x224, .f32⟩
  | 46 => ⟨S4x224x224, .i1⟩
  | 47 => ⟨S4x224x224, .i1⟩
  | 48 => ⟨S_, .i32⟩
  | 49 => ⟨S_, .i32⟩
  | 50 => ⟨S_, .f32⟩
  | 51 => ⟨S4x224x224, .f32⟩
  | 52 => ⟨S4x224x224, .f32⟩
  | 53 => ⟨S_, .f32⟩
  | 54 => ⟨S4x224x224, .f32⟩
  | 55 => ⟨S4x224x224, .f32⟩
  | 56 => ⟨S4x224x224, .i32⟩
  | 57 => ⟨S_, .i32⟩
  | 58 => ⟨S_, .i32⟩
  | 59 => ⟨S_, .f32⟩
  | 60 => ⟨S4x224x224, .f32⟩
  | 61 => ⟨S4x224x224, .f32⟩
  | 62 => ⟨S_, .f32⟩
  | 63 => ⟨S4x224x224, .f32⟩
  | 64 => ⟨S4x224x224, .f32⟩
  | 65 => ⟨S4x224x224, .i32⟩
  | 66 => ⟨S_, .i32⟩
  | 67 => ⟨S4x224x224, .i32⟩
  | 68 => ⟨S4x224x224, .i1⟩
  | 69 => ⟨S_, .i32⟩
  | 70 => ⟨S4x224x224, .i32⟩
  | 71 => ⟨S4x224x224, .i32⟩
  | 72 => ⟨S4x224x224, .i32⟩
  | 73 => ⟨S_, .i32⟩
  | 74 => ⟨S4x224x224, .i32⟩
  | 75 => ⟨S4x224x224, .i1⟩
  | 76 => ⟨S_, .i32⟩
  | 77 => ⟨S4x224x224, .i32⟩
  | 78 => ⟨S4x224x224, .i32⟩
  | 79 => ⟨S4x224x224, .i32⟩
  | 80 => ⟨S4x224x224x1, .i32⟩
  | 81 => ⟨S4x224x224x1, .i32⟩
  | 82 => ⟨S4x224x224x2, .i32⟩
  | 83 => ⟨S4x96x224x224, .f32⟩
  | 84 => ⟨S4x224x224, .f32⟩
  | 85 => ⟨S4x1x224x224, .f32⟩
  | 86 => ⟨S4x96x224x224, .f32⟩
  | 87 => ⟨S4x96x224x224, .f32⟩
  | 88 => ⟨S4x224x224, .f32⟩
  | 89 => ⟨S4x1x224x224, .f32⟩
  | 90 => ⟨S4x96x224x224, .f32⟩
  | 91 => ⟨S4x96x224x224, .f32⟩
  | 92 => ⟨S4x96x224x224, .f32⟩
  | 93 => ⟨S_, .f32⟩
  | 94 => ⟨S4x224x224, .f32⟩
  | 95 => ⟨S4x224x224, .i1⟩
  | 96 => ⟨S_, .f32⟩
  | 97 => ⟨S4x224x224, .f32⟩
  | 98 => ⟨S4x224x224, .i1⟩
  | 99 => ⟨S4x224x224, .i1⟩
  | 100 => ⟨S_, .f32⟩
  | 101 => ⟨S4x224x224, .f32⟩
  | 102 => ⟨S4x224x224, .i1⟩
  | 103 => ⟨S4x224x224, .i1⟩
  | 104 => ⟨S_, .f32⟩
  | 105 => ⟨S4x224x224, .f32⟩
  | 106 => ⟨S4x224x224, .i1⟩
  | 107 => ⟨S4x224x224, .i1⟩
  | 108 => ⟨S_, .i32⟩
  | 109 => ⟨S_, .i32⟩
  | 110 => ⟨S_, .f32⟩
  | 111 => ⟨S4x224x224, .f32⟩
  | 112 => ⟨S4x224x224, .f32⟩
  | 113 => ⟨S_, .f32⟩
  | 114 => ⟨S4x224x224, .f32⟩
  | 115 => ⟨S4x224x224, .f32⟩
  | 116 => ⟨S4x224x224, .i32⟩
  | 117 => ⟨S_, .i32⟩
  | 118 => ⟨S_, .i32⟩
  | 119 => ⟨S_, .f32⟩
  | 120 => ⟨S4x224x224, .f32⟩
  | 121 => ⟨S4x224x224, .f32⟩
  | 122 => ⟨S_, .f32⟩
  | 123 => ⟨S4x224x224, .f32⟩
  | 124 => ⟨S4x224x224, .f32⟩
  | 125 => ⟨S4x224x224, .i32⟩
  | 126 => ⟨S_, .i32⟩
  | 127 => ⟨S4x224x224, .i32⟩
  | _ => ⟨S4x50176x2, .f32⟩

abbrev hbmTy0_2 (i : Nat) : BufTy := match i % 128 with
  | 0 => ⟨S4x224x224, .i1⟩
  | 1 => ⟨S_, .i32⟩
  | 2 => ⟨S4x224x224, .i32⟩
  | 3 => ⟨S4x224x224, .i32⟩
  | 4 => ⟨S4x224x224, .i32⟩
  | 5 => ⟨S_, .i32⟩
  | 6 => ⟨S4x224x224, .i32⟩
  | 7 => ⟨S4x224x224, .i1⟩
  | 8 => ⟨S_, .i32⟩
  | 9 => ⟨S4x224x224, .i32⟩
  | 10 => ⟨S4x224x224, .i32⟩
  | 11 => ⟨S4x224x224, .i32⟩
  | 12 => ⟨S4x224x224x1, .i32⟩
  | 13 => ⟨S4x224x224x1, .i32⟩
  | 14 => ⟨S4x224x224x2, .i32⟩
  | 15 => ⟨S4x96x224x224, .f32⟩
  | 16 => ⟨S4x224x224, .f32⟩
  | 17 => ⟨S4x1x224x224, .f32⟩
  | 18 => ⟨S4x96x224x224, .f32⟩
  | 19 => ⟨S4x96x224x224, .f32⟩
  | 20 => ⟨S4x224x224, .f32⟩
  | 21 => ⟨S4x1x224x224, .f32⟩
  | 22 => ⟨S4x96x224x224, .f32⟩
  | 23 => ⟨S4x96x224x224, .f32⟩
  | 24 => ⟨S4x96x224x224, .f32⟩
  | 25 => ⟨S_, .f32⟩
  | 26 => ⟨S4x224x224, .f32⟩
  | 27 => ⟨S4x224x224, .i1⟩
  | 28 => ⟨S_, .f32⟩
  | 29 => ⟨S4x224x224, .f32⟩
  | 30 => ⟨S4x224x224, .i1⟩
  | 31 => ⟨S4x224x224, .i1⟩
  | 32 => ⟨S_, .f32⟩
  | 33 => ⟨S4x224x224, .f32⟩
  | 34 => ⟨S4x224x224, .i1⟩
  | 35 => ⟨S4x224x224, .i1⟩
  | 36 => ⟨S_, .f32⟩
  | 37 => ⟨S4x224x224, .f32⟩
  | 38 => ⟨S4x224x224, .i1⟩
  | 39 => ⟨S4x224x224, .i1⟩
  | 40 => ⟨S_, .i32⟩
  | 41 => ⟨S_, .i32⟩
  | 42 => ⟨S_, .f32⟩
  | 43 => ⟨S4x224x224, .f32⟩
  | 44 => ⟨S4x224x224, .f32⟩
  | 45 => ⟨S_, .f32⟩
  | 46 => ⟨S4x224x224, .f32⟩
  | 47 => ⟨S4x224x224, .f32⟩
  | 48 => ⟨S4x224x224, .i32⟩
  | 49 => ⟨S_, .i32⟩
  | 50 => ⟨S_, .i32⟩
  | 51 => ⟨S_, .f32⟩
  | 52 => ⟨S4x224x224, .f32⟩
  | 53 => ⟨S4x224x224, .f32⟩
  | 54 => ⟨S_, .f32⟩
  | 55 => ⟨S4x224x224, .f32⟩
  | 56 => ⟨S4x224x224, .f32⟩
  | 57 => ⟨S4x224x224, .i32⟩
  | 58 => ⟨S_, .i32⟩
  | 59 => ⟨S4x224x224, .i32⟩
  | 60 => ⟨S4x224x224, .i1⟩
  | 61 => ⟨S_, .i32⟩
  | 62 => ⟨S4x224x224, .i32⟩
  | 63 => ⟨S4x224x224, .i32⟩
  | 64 => ⟨S4x224x224, .i32⟩
  | 65 => ⟨S_, .i32⟩
  | 66 => ⟨S4x224x224, .i32⟩
  | 67 => ⟨S4x224x224, .i1⟩
  | 68 => ⟨S_, .i32⟩
  | 69 => ⟨S4x224x224, .i32⟩
  | 70 => ⟨S4x224x224, .i32⟩
  | 71 => ⟨S4x224x224, .i32⟩
  | 72 => ⟨S4x224x224x1, .i32⟩
  | 73 => ⟨S4x224x224x1, .i32⟩
  | 74 => ⟨S4x224x224x2, .i32⟩
  | 75 => ⟨S4x96x224x224, .f32⟩
  | 76 => ⟨S4x224x224, .f32⟩
  | 77 => ⟨S4x1x224x224, .f32⟩
  | 78 => ⟨S4x96x224x224, .f32⟩
  | 79 => ⟨S4x96x224x224, .f32⟩
  | 80 => ⟨S4x224x224, .f32⟩
  | 81 => ⟨S4x1x224x224, .f32⟩
  | 82 => ⟨S4x96x224x224, .f32⟩
  | 83 => ⟨S4x96x224x224, .f32⟩
  | 84 => ⟨S4x96x224x224, .f32⟩
  | _ => ⟨S4x50176x2, .f32⟩

abbrev hbmTy (i : Nat) : BufTy := match i / 128 with
  | 0 => hbmTy0_0 i
  | 1 => hbmTy0_1 i
  | 2 => hbmTy0_2 i
  | _ => ⟨S4x50176x2, .f32⟩

abbrev bufTy : (tb : Table) → Fin (tcTables nBuf tb) → BufTy
  | .hbm, ⟨i, _⟩ => hbmTy i
  | _, _ => ⟨S4x50176x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_cst_1 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v1 : Ref sig .tc := ⟨.hbm, 26, rfl⟩
abbrev main_cst_2 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_cst : Ref sig .tc := ⟨.hbm, 32, rfl⟩
abbrev main_call1_v3 : Ref sig .tc := ⟨.hbm, 33, rfl⟩
abbrev main_call1_v4 : Ref sig .tc := ⟨.hbm, 34, rfl⟩
abbrev main_call1_cst_0 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_cst_1 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_v15 : Ref sig .tc := ⟨.hbm, 47, rfl⟩
abbrev main_call1_v16 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_cst_4 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_cst_5 : Ref sig .tc := ⟨.hbm, 66, rfl⟩
abbrev main_v18 : Ref sig .tc := ⟨.hbm, 67, rfl⟩
abbrev main_v19 : Ref sig .tc := ⟨.hbm, 68, rfl⟩
abbrev main_cst_6 : Ref sig .tc := ⟨.hbm, 69, rfl⟩
abbrev main_v20 : Ref sig .tc := ⟨.hbm, 70, rfl⟩
abbrev main_v21 : Ref sig .tc := ⟨.hbm, 71, rfl⟩
abbrev main_cst_7 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_cst_8 : Ref sig .tc := ⟨.hbm, 77, rfl⟩
abbrev main_v26 : Ref sig .tc := ⟨.hbm, 78, rfl⟩
abbrev main_v27 : Ref sig .tc := ⟨.hbm, 79, rfl⟩
abbrev main_cst_9 : Ref sig .tc := ⟨.hbm, 80, rfl⟩
abbrev main_v28 : Ref sig .tc := ⟨.hbm, 81, rfl⟩
abbrev main_v29 : Ref sig .tc := ⟨.hbm, 82, rfl⟩
abbrev main_cst_10 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_cst_11 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_cst_12 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_cst_13 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_cst_14 : Ref sig .tc := ⟨.hbm, 99, rfl⟩
abbrev main_v42 : Ref sig .tc := ⟨.hbm, 100, rfl⟩
abbrev main_v43 : Ref sig .tc := ⟨.hbm, 101, rfl⟩
abbrev main_cst_15 : Ref sig .tc := ⟨.hbm, 102, rfl⟩
abbrev main_v44 : Ref sig .tc := ⟨.hbm, 103, rfl⟩
abbrev main_v45 : Ref sig .tc := ⟨.hbm, 104, rfl⟩
abbrev main_cst_16 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_cst_17 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_cst_18 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_c : Ref sig .tc := ⟨.hbm, 117, rfl⟩
abbrev main_c_19 : Ref sig .tc := ⟨.hbm, 118, rfl⟩
abbrev main_call2_v0 : Ref sig .tc := ⟨.hbm, 119, rfl⟩
abbrev main_call2_v1 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_v55 : Ref sig .tc := ⟨.hbm, 124, rfl⟩
abbrev main_v56 : Ref sig .tc := ⟨.hbm, 125, rfl⟩
abbrev main_c_20 : Ref sig .tc := ⟨.hbm, 126, rfl⟩
abbrev main_c_21 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_v57 : Ref sig .tc := ⟨.hbm, 133, rfl⟩
abbrev main_v58 : Ref sig .tc := ⟨.hbm, 134, rfl⟩
abbrev main_c_22 : Ref sig .tc := ⟨.hbm, 135, rfl⟩
abbrev main_v59 : Ref sig .tc := ⟨.hbm, 136, rfl⟩
abbrev main_v60 : Ref sig .tc := ⟨.hbm, 137, rfl⟩
abbrev main_c_23 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_c_24 : Ref sig .tc := ⟨.hbm, 142, rfl⟩
abbrev main_v64 : Ref sig .tc := ⟨.hbm, 143, rfl⟩
abbrev main_v65 : Ref sig .tc := ⟨.hbm, 144, rfl⟩
abbrev main_c_25 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_cst_26 : Ref sig .tc := ⟨.hbm, 161, rfl⟩
abbrev main_v81 : Ref sig .tc := ⟨.hbm, 162, rfl⟩
abbrev main_v82 : Ref sig .tc := ⟨.hbm, 163, rfl⟩
abbrev main_cst_27 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_cst_28 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_cst_29 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_c_30 : Ref sig .tc := ⟨.hbm, 176, rfl⟩
abbrev main_c_31 : Ref sig .tc := ⟨.hbm, 177, rfl⟩
abbrev main_call4_v0 : Ref sig .tc := ⟨.hbm, 178, rfl⟩
abbrev main_call4_v1 : Ref sig .tc := ⟨.hbm, 179, rfl⟩
abbrev main_call4_v2 : Ref sig .tc := ⟨.hbm, 180, rfl⟩
abbrev main_call4_v3 : Ref sig .tc := ⟨.hbm, 181, rfl⟩
abbrev main_call4_v4 : Ref sig .tc := ⟨.hbm, 182, rfl⟩
abbrev main_v92 : Ref sig .tc := ⟨.hbm, 183, rfl⟩
abbrev main_v93 : Ref sig .tc := ⟨.hbm, 184, rfl⟩
abbrev main_c_32 : Ref sig .tc := ⟨.hbm, 185, rfl⟩
abbrev main_c_33 : Ref sig .tc := ⟨.hbm, 186, rfl⟩
abbrev main_call5_v0 : Ref sig .tc := ⟨.hbm, 187, rfl⟩
abbrev main_call5_v1 : Ref sig .tc := ⟨.hbm, 188, rfl⟩
abbrev main_call5_v2 : Ref sig .tc := ⟨.hbm, 189, rfl⟩
abbrev main_call5_v3 : Ref sig .tc := ⟨.hbm, 190, rfl⟩
abbrev main_call5_v4 : Ref sig .tc := ⟨.hbm, 191, rfl⟩
abbrev main_v94 : Ref sig .tc := ⟨.hbm, 192, rfl⟩
abbrev main_v95 : Ref sig .tc := ⟨.hbm, 193, rfl⟩
abbrev main_c_34 : Ref sig .tc := ⟨.hbm, 194, rfl⟩
abbrev main_v96 : Ref sig .tc := ⟨.hbm, 195, rfl⟩
abbrev main_v97 : Ref sig .tc := ⟨.hbm, 196, rfl⟩
abbrev main_c_35 : Ref sig .tc := ⟨.hbm, 197, rfl⟩
abbrev main_v98 : Ref sig .tc := ⟨.hbm, 198, rfl⟩
abbrev main_v99 : Ref sig .tc := ⟨.hbm, 199, rfl⟩
abbrev main_v100 : Ref sig .tc := ⟨.hbm, 200, rfl⟩
abbrev main_c_36 : Ref sig .tc := ⟨.hbm, 201, rfl⟩
abbrev main_v101 : Ref sig .tc := ⟨.hbm, 202, rfl⟩
abbrev main_v102 : Ref sig .tc := ⟨.hbm, 203, rfl⟩
abbrev main_c_37 : Ref sig .tc := ⟨.hbm, 204, rfl⟩
abbrev main_v103 : Ref sig .tc := ⟨.hbm, 205, rfl⟩
abbrev main_v104 : Ref sig .tc := ⟨.hbm, 206, rfl⟩
abbrev main_v105 : Ref sig .tc := ⟨.hbm, 207, rfl⟩
abbrev main_v106 : Ref sig .tc := ⟨.hbm, 208, rfl⟩
abbrev main_v107 : Ref sig .tc := ⟨.hbm, 209, rfl⟩
abbrev main_v108 : Ref sig .tc := ⟨.hbm, 210, rfl⟩
abbrev main_v109 : Ref sig .tc := ⟨.hbm, 211, rfl⟩
abbrev main_v110 : Ref sig .tc := ⟨.hbm, 212, rfl⟩
abbrev main_v111 : Ref sig .tc := ⟨.hbm, 213, rfl⟩
abbrev main_v112 : Ref sig .tc := ⟨.hbm, 214, rfl⟩
abbrev main_v113 : Ref sig .tc := ⟨.hbm, 215, rfl⟩
abbrev main_v114 : Ref sig .tc := ⟨.hbm, 216, rfl⟩
abbrev main_v115 : Ref sig .tc := ⟨.hbm, 217, rfl⟩
abbrev main_v116 : Ref sig .tc := ⟨.hbm, 218, rfl⟩
abbrev main_v117 : Ref sig .tc := ⟨.hbm, 219, rfl⟩
abbrev main_v118 : Ref sig .tc := ⟨.hbm, 220, rfl⟩
abbrev main_cst_38 : Ref sig .tc := ⟨.hbm, 221, rfl⟩
abbrev main_v119 : Ref sig .tc := ⟨.hbm, 222, rfl⟩
abbrev main_v120 : Ref sig .tc := ⟨.hbm, 223, rfl⟩
abbrev main_cst_39 : Ref sig .tc := ⟨.hbm, 224, rfl⟩
abbrev main_v121 : Ref sig .tc := ⟨.hbm, 225, rfl⟩
abbrev main_v122 : Ref sig .tc := ⟨.hbm, 226, rfl⟩
abbrev main_v123 : Ref sig .tc := ⟨.hbm, 227, rfl⟩
abbrev main_cst_40 : Ref sig .tc := ⟨.hbm, 228, rfl⟩
abbrev main_v124 : Ref sig .tc := ⟨.hbm, 229, rfl⟩
abbrev main_v125 : Ref sig .tc := ⟨.hbm, 230, rfl⟩
abbrev main_v126 : Ref sig .tc := ⟨.hbm, 231, rfl⟩
abbrev main_cst_41 : Ref sig .tc := ⟨.hbm, 232, rfl⟩
abbrev main_v127 : Ref sig .tc := ⟨.hbm, 233, rfl⟩
abbrev main_v128 : Ref sig .tc := ⟨.hbm, 234, rfl⟩
abbrev main_v129 : Ref sig .tc := ⟨.hbm, 235, rfl⟩
abbrev main_c_42 : Ref sig .tc := ⟨.hbm, 236, rfl⟩
abbrev main_c_43 : Ref sig .tc := ⟨.hbm, 237, rfl⟩
abbrev main_call6_v0 : Ref sig .tc := ⟨.hbm, 238, rfl⟩
abbrev main_call6_v1 : Ref sig .tc := ⟨.hbm, 239, rfl⟩
abbrev main_call6_v2 : Ref sig .tc := ⟨.hbm, 240, rfl⟩
abbrev main_call6_v3 : Ref sig .tc := ⟨.hbm, 241, rfl⟩
abbrev main_call6_v4 : Ref sig .tc := ⟨.hbm, 242, rfl⟩
abbrev main_v130 : Ref sig .tc := ⟨.hbm, 243, rfl⟩
abbrev main_v131 : Ref sig .tc := ⟨.hbm, 244, rfl⟩
abbrev main_c_44 : Ref sig .tc := ⟨.hbm, 245, rfl⟩
abbrev main_c_45 : Ref sig .tc := ⟨.hbm, 246, rfl⟩
abbrev main_call7_v0 : Ref sig .tc := ⟨.hbm, 247, rfl⟩
abbrev main_call7_v1 : Ref sig .tc := ⟨.hbm, 248, rfl⟩
abbrev main_call7_v2 : Ref sig .tc := ⟨.hbm, 249, rfl⟩
abbrev main_call7_v3 : Ref sig .tc := ⟨.hbm, 250, rfl⟩
abbrev main_call7_v4 : Ref sig .tc := ⟨.hbm, 251, rfl⟩
abbrev main_v132 : Ref sig .tc := ⟨.hbm, 252, rfl⟩
abbrev main_v133 : Ref sig .tc := ⟨.hbm, 253, rfl⟩
abbrev main_c_46 : Ref sig .tc := ⟨.hbm, 254, rfl⟩
abbrev main_v134 : Ref sig .tc := ⟨.hbm, 255, rfl⟩
abbrev main_v135 : Ref sig .tc := ⟨.hbm, 256, rfl⟩
abbrev main_c_47 : Ref sig .tc := ⟨.hbm, 257, rfl⟩
abbrev main_v136 : Ref sig .tc := ⟨.hbm, 258, rfl⟩
abbrev main_v137 : Ref sig .tc := ⟨.hbm, 259, rfl⟩
abbrev main_v138 : Ref sig .tc := ⟨.hbm, 260, rfl⟩
abbrev main_c_48 : Ref sig .tc := ⟨.hbm, 261, rfl⟩
abbrev main_v139 : Ref sig .tc := ⟨.hbm, 262, rfl⟩
abbrev main_v140 : Ref sig .tc := ⟨.hbm, 263, rfl⟩
abbrev main_c_49 : Ref sig .tc := ⟨.hbm, 264, rfl⟩
abbrev main_v141 : Ref sig .tc := ⟨.hbm, 265, rfl⟩
abbrev main_v142 : Ref sig .tc := ⟨.hbm, 266, rfl⟩
abbrev main_v143 : Ref sig .tc := ⟨.hbm, 267, rfl⟩
abbrev main_v144 : Ref sig .tc := ⟨.hbm, 268, rfl⟩
abbrev main_v145 : Ref sig .tc := ⟨.hbm, 269, rfl⟩
abbrev main_v146 : Ref sig .tc := ⟨.hbm, 270, rfl⟩
abbrev main_v147 : Ref sig .tc := ⟨.hbm, 271, rfl⟩
abbrev main_v148 : Ref sig .tc := ⟨.hbm, 272, rfl⟩
abbrev main_v149 : Ref sig .tc := ⟨.hbm, 273, rfl⟩
abbrev main_v150 : Ref sig .tc := ⟨.hbm, 274, rfl⟩
abbrev main_v151 : Ref sig .tc := ⟨.hbm, 275, rfl⟩
abbrev main_v152 : Ref sig .tc := ⟨.hbm, 276, rfl⟩
abbrev main_v153 : Ref sig .tc := ⟨.hbm, 277, rfl⟩
abbrev main_v154 : Ref sig .tc := ⟨.hbm, 278, rfl⟩
abbrev main_v155 : Ref sig .tc := ⟨.hbm, 279, rfl⟩
abbrev main_v156 : Ref sig .tc := ⟨.hbm, 280, rfl⟩
abbrev main_cst_50 : Ref sig .tc := ⟨.hbm, 281, rfl⟩
abbrev main_v157 : Ref sig .tc := ⟨.hbm, 282, rfl⟩
abbrev main_v158 : Ref sig .tc := ⟨.hbm, 283, rfl⟩
abbrev main_cst_51 : Ref sig .tc := ⟨.hbm, 284, rfl⟩
abbrev main_v159 : Ref sig .tc := ⟨.hbm, 285, rfl⟩
abbrev main_v160 : Ref sig .tc := ⟨.hbm, 286, rfl⟩
abbrev main_v161 : Ref sig .tc := ⟨.hbm, 287, rfl⟩
abbrev main_cst_52 : Ref sig .tc := ⟨.hbm, 288, rfl⟩
abbrev main_v162 : Ref sig .tc := ⟨.hbm, 289, rfl⟩
abbrev main_v163 : Ref sig .tc := ⟨.hbm, 290, rfl⟩
abbrev main_v164 : Ref sig .tc := ⟨.hbm, 291, rfl⟩
abbrev main_cst_53 : Ref sig .tc := ⟨.hbm, 292, rfl⟩
abbrev main_v165 : Ref sig .tc := ⟨.hbm, 293, rfl⟩
abbrev main_v166 : Ref sig .tc := ⟨.hbm, 294, rfl⟩
abbrev main_v167 : Ref sig .tc := ⟨.hbm, 295, rfl⟩
abbrev main_c_54 : Ref sig .tc := ⟨.hbm, 296, rfl⟩
abbrev main_c_55 : Ref sig .tc := ⟨.hbm, 297, rfl⟩
abbrev main_call8_v0 : Ref sig .tc := ⟨.hbm, 298, rfl⟩
abbrev main_call8_v1 : Ref sig .tc := ⟨.hbm, 299, rfl⟩
abbrev main_call8_v2 : Ref sig .tc := ⟨.hbm, 300, rfl⟩
abbrev main_call8_v3 : Ref sig .tc := ⟨.hbm, 301, rfl⟩
abbrev main_call8_v4 : Ref sig .tc := ⟨.hbm, 302, rfl⟩
abbrev main_v168 : Ref sig .tc := ⟨.hbm, 303, rfl⟩
abbrev main_v169 : Ref sig .tc := ⟨.hbm, 304, rfl⟩
abbrev main_c_56 : Ref sig .tc := ⟨.hbm, 305, rfl⟩
abbrev main_c_57 : Ref sig .tc := ⟨.hbm, 306, rfl⟩
abbrev main_call9_v0 : Ref sig .tc := ⟨.hbm, 307, rfl⟩
abbrev main_call9_v1 : Ref sig .tc := ⟨.hbm, 308, rfl⟩
abbrev main_call9_v2 : Ref sig .tc := ⟨.hbm, 309, rfl⟩
abbrev main_call9_v3 : Ref sig .tc := ⟨.hbm, 310, rfl⟩
abbrev main_call9_v4 : Ref sig .tc := ⟨.hbm, 311, rfl⟩
abbrev main_v170 : Ref sig .tc := ⟨.hbm, 312, rfl⟩
abbrev main_v171 : Ref sig .tc := ⟨.hbm, 313, rfl⟩
abbrev main_c_58 : Ref sig .tc := ⟨.hbm, 314, rfl⟩
abbrev main_v172 : Ref sig .tc := ⟨.hbm, 315, rfl⟩
abbrev main_v173 : Ref sig .tc := ⟨.hbm, 316, rfl⟩
abbrev main_c_59 : Ref sig .tc := ⟨.hbm, 317, rfl⟩
abbrev main_v174 : Ref sig .tc := ⟨.hbm, 318, rfl⟩
abbrev main_v175 : Ref sig .tc := ⟨.hbm, 319, rfl⟩
abbrev main_v176 : Ref sig .tc := ⟨.hbm, 320, rfl⟩
abbrev main_c_60 : Ref sig .tc := ⟨.hbm, 321, rfl⟩
abbrev main_v177 : Ref sig .tc := ⟨.hbm, 322, rfl⟩
abbrev main_v178 : Ref sig .tc := ⟨.hbm, 323, rfl⟩
abbrev main_c_61 : Ref sig .tc := ⟨.hbm, 324, rfl⟩
abbrev main_v179 : Ref sig .tc := ⟨.hbm, 325, rfl⟩
abbrev main_v180 : Ref sig .tc := ⟨.hbm, 326, rfl⟩
abbrev main_v181 : Ref sig .tc := ⟨.hbm, 327, rfl⟩
abbrev main_v182 : Ref sig .tc := ⟨.hbm, 328, rfl⟩
abbrev main_v183 : Ref sig .tc := ⟨.hbm, 329, rfl⟩
abbrev main_v184 : Ref sig .tc := ⟨.hbm, 330, rfl⟩
abbrev main_v185 : Ref sig .tc := ⟨.hbm, 331, rfl⟩
abbrev main_v186 : Ref sig .tc := ⟨.hbm, 332, rfl⟩
abbrev main_v187 : Ref sig .tc := ⟨.hbm, 333, rfl⟩
abbrev main_v188 : Ref sig .tc := ⟨.hbm, 334, rfl⟩
abbrev main_v189 : Ref sig .tc := ⟨.hbm, 335, rfl⟩
abbrev main_v190 : Ref sig .tc := ⟨.hbm, 336, rfl⟩
abbrev main_v191 : Ref sig .tc := ⟨.hbm, 337, rfl⟩
abbrev main_v192 : Ref sig .tc := ⟨.hbm, 338, rfl⟩
abbrev main_v193 : Ref sig .tc := ⟨.hbm, 339, rfl⟩
abbrev main_v194 : Ref sig .tc := ⟨.hbm, 340, rfl⟩

abbrev nD : Nat := 1
abbrev τ : Topo := Topo.v7x

variable {F : FTy → Type} [FloatOps F]
-- ==== Proof.Grid.lean ====
module

public import proofs.«01_k».proof.Proof.Gen.Kernel

/-!
# The sampling coordinates

The points of the even grid on `[-1, 1]²`, moved by twice the offset over 224, read in units of the plane's lines:
`coordX` across, `coordY` down. The kernel's program, the reference and the precondition all compute them alike.
-/

@[expose] public section

noncomputable section

namespace Cert.Vals

open Cert.Kernel Cert.Kernel.Gen
open Idealize.ShloMosaic

variable {F : FTy → Type} [FloatOps F]

/-- 224 even points from -1 to 1. -/
def line : FVec F S224 .f32 :=
  let low : FVec F S_ .f32 := constant S_ .f32 0xBF800000#32
  let high : FVec F S_ .f32 := constant S_ .f32 0x3F800000#32
  let steps : FVec F S223 .f32 := Host.divf (sitofp .f32 (iotaInDim S223 32 0)) (broadcastInDim S223 ![] bcast_S_S223 (constant S_ .f32 0x435F0000#32))
  concatenate S224 0 [⟨S223, addf
      (mulf (broadcastInDim S223 ![0] bcast_S1_S223_0 (shapeCast S1 low shapeCasts_S_S1)) (subf (broadcastInDim S223 ![] bcast_S_S223 (constant S_ .f32 0x3F800000#32)) steps))
      (mulf (broadcastInDim S223 ![0] bcast_S1_S223_0 (shapeCast S1 high shapeCasts_S_S1)) steps)⟩,
    ⟨S1, broadcastInDim S1 ![] bcast_S_S1 high⟩] concatenates_S223_S1_S224_d0

/-- The even grid's point at each place, the same for every image. -/
def points : FVec F S4x224x224x2 .f32 :=
  broadcastInDim S4x224x224x2 ![0, 1, 2, 3] bcast_S1x224x224x2_S4x224x224x2_0_1_2_3
    (broadcastInDim S1x224x224x2 ![1, 2, 3] bcast_S224x224x2_S1x224x224x2_1_2_3
      (concatenate S224x224x2 2
        [⟨S224x224x1, broadcastInDim S224x224x1 ![0, 1] bcast_S224x224_S224x224x1_0_1 (broadcastInDim S224x224 ![1] bcast_S224_S224x224_1 line)⟩,
          ⟨S224x224x1, broadcastInDim S224x224x1 ![0, 1] bcast_S224x224_S224x224x1_0_1 (broadcastInDim S224x224 ![0] bcast_S224_S224x224_0 line)⟩]
        concatenates_S224x224x1_S224x224x1_S224x224x2_d2))

/-- The points moved by the offsets. -/
def moved (off : FVec F S4x50176x2 .f32) : FVec F S4x224x224x2 .f32 :=
  addf points (mulf
    (Host.divf (shapeCast S4x224x224x2 off shapeCasts_S4x50176x2_S4x224x224x2)
      (broadcastInDim S4x224x224x2 ![0, 1, 2, 3] bcast_S1x1x1x2_S4x224x224x2_0_1_2_3 (shapeCast S1x1x1x2 (constant S2 .f32 0x43600000#32) shapeCasts_S2_S1x1x1x2)))
    (broadcastInDim S4x224x224x2 ![] bcast_S_S4x224x224x2 (constant S_ .f32 0x40000000#32)))

/-- One of a point's two numbers, in units of the plane's lines. -/
def toLines (p : FVec F S4x224x224x1 .f32) : FVec F S4x224x224 .f32 :=
  mulf (mulf (addf (shapeCast S4x224x224 p shapeCasts_S4x224x224x1_S4x224x224) (broadcastInDim S4x224x224 ![] bcast_S_S4x224x224 (constant S_ .f32 0x3F800000#32)))
    (broadcastInDim S4x224x224 ![] bcast_S_S4x224x224 (constant S_ .f32 0x3F000000#32)))
    (broadcastInDim S4x224x224 ![] bcast_S_S4x224x224 (constant S_ .f32 0x435F0000#32))

def coordX (off : FVec F S4x50176x2 .f32) : FVec F S4x224x224 .f32 :=
  toLines (extractStridedSlice S4x224x224x1 ![0, 0, 0, 0] (moved off) slices_S4x224x224x2_S4x224x224x1_0_0_0_0)
def coordY (off : FVec F S4x50176x2 .f32) : FVec F S4x224x224 .f32 :=
  toLines (extractStridedSlice S4x224x224x1 ![0, 0, 0, 1] (moved off) slices_S4x224x224x2_S4x224x224x1_0_0_0_1)

end Cert.Vals

end

end
-- ==== Proof.Vals.lean ====
module

public import Idealize.ShloMosaic.PureOps.Vector
public import Idealize.ShloMosaic.PureOps.ShapeOps
public import Idealize.ShloMosaic.Lib.ValueIdxCore

/-!
# The values the kernel computes

A sampling coordinate `g` falls between the grid lines `cell g` and `next g`. The kernel keeps, for each
place of the plane, the flat place of the low corner and of the high corner (`tabI`) and the four corner
weights (`tabW`); the result is the weighted sum of the four corners (`blend`). Everything here is read at one
place, over any float instance.
-/

@[expose] public section

noncomputable section

namespace Cert.Vals

open Idealize.ShloMosaic

variable {F : FTy → Type} [FloatOps F]

/-- The grid line at or below `g`: `g` truncated, less one if that exceeds `g`. -/
def cell (g : F .f32) : BitVec 32 :=
  Scalar.select (FloatOps.cmpf .olt g (FloatOps.sitofp .f32 (FloatOps.fptosi 32 g)))
    (IntOp.subi (FloatOps.fptosi 32 g) 1#32) (FloatOps.fptosi 32 g)
/-- The grid line above. -/
def next (g : F .f32) : BitVec 32 := IntOp.addi (cell g) 1#32
/-- How far `g` lies above its grid line. -/
def frac (g : F .f32) : F .f32 := FloatOps.subf g (FloatOps.sitofp .f32 (cell g))
/-- Whether a grid line is one of the plane's. -/
def inside (c : BitVec 32) : BitVec 1 := IntOp.andi (IntOp.cmpi .sge c 0#32) (IntOp.cmpi .sle c 223#32)
/-- The weight of the low line, nothing if the line is outside. -/
def lowW (g : F .f32) : F .f32 :=
  Scalar.select (inside (cell g)) (FloatOps.subf (FloatOps.ofBits .f32 0x3F800000#32) (frac g))
    (FloatOps.ofBits .f32 0x00000000#32)
/-- The weight of the high line, nothing if the line is outside. -/
def highW (g : F .f32) : F .f32 :=
  Scalar.select (inside (next g)) (frac g) (FloatOps.ofBits .f32 0x00000000#32)
/-- A grid line moved into the plane. -/
def clip (c : BitVec 32) : BitVec 32 := IntOp.minsi 223#32 (IntOp.maxsi 0#32 c)
/-- The flat place of the low corner. -/
def lowIx (gx gy : F .f32) : BitVec 32 := IntOp.addi (IntOp.muli (clip (cell gy)) 224#32) (clip (cell gx))
/-- The flat place of the high corner. -/
def highIx (gx gy : F .f32) : BitVec 32 := IntOp.addi (IntOp.muli (clip (next gy)) 224#32) (clip (next gx))
/-- The index table's two rows. -/
def tabI (gx gy : F .f32) (r : Nat) : BitVec 32 := if r = 0 then lowIx gx gy else highIx gx gy
/-- The weight table's four rows. -/
def tabW (gx gy : F .f32) (r : Nat) : F .f32 :=
  if r = 0 then FloatOps.mulf (lowW gx) (lowW gy) else if r = 1 then FloatOps.mulf (highW gx) (lowW gy)
  else if r = 2 then FloatOps.mulf (lowW gx) (highW gy) else FloatOps.mulf (highW gx) (highW gy)
/-- The step from the low corner to its right neighbour, read off the two corners. -/
def dx (a b : BitVec 32) : BitVec 32 := IntOp.andi (IntOp.subi b a) 1#32

/-- The weighted sum of four corners of a plane. -/
def blend (p : Nat → F .f32) (a b : BitVec 32) (w : Nat → F .f32) : F .f32 :=
  FloatOps.addf (FloatOps.addf (FloatOps.addf (FloatOps.mulf (p a.toNat) (w 0))
    (FloatOps.mulf (p (IntOp.addi a (dx a b)).toNat) (w 1)))
    (FloatOps.mulf (p (IntOp.subi b (dx a b)).toNat) (w 2))) (FloatOps.mulf (p b.toNat) (w 3))

/-- What a vector of `n` values holds at place `k`; past its end, its first value. -/
def nth {α : Type} {n : Nat} [NeZero n] (f : (⟨1, ![n]⟩ : Shape).Idx → α) (k : Nat) : α := f (ValueIdx.ix1 (Fin.ofNat n k))

omit [FloatOps F] in
theorem nth_of_lt {α : Type} {n : Nat} [NeZero n] (f : (⟨1, ![n]⟩ : Shape).Idx → α) {k : Nat} (h : k < n) :
    nth f k = f (ValueIdx.ix1 ⟨k, h⟩) := by
  unfold nth; congr 1; congr 1; exact Fin.ext (Nat.mod_eq_of_lt h)

omit [FloatOps F] in
theorem nth_val {α : Type} {n : Nat} [NeZero n] (f : (⟨1, ![n]⟩ : Shape).Idx → α) (j : (⟨1, ![n]⟩ : Shape).Idx) :
    nth f (j 0).val = f j := by
  rw [nth_of_lt f (j 0).isLt]; congr 1; exact (ValueIdx.eq_ix1 j).symm

/-- The result at place `k` of the flat result: plane `k / 50176`, its four corners and weights those of the
    image's coordinates at that place. -/
def outAt (x : (⟨1, ![19267584]⟩ : Shape).Idx → F .f32) (gx gy : (⟨1, ![200704]⟩ : Shape).Idx → F .f32) (k : Nat) : F .f32 :=
  let u := nth gx (k / 4816896 * 50176 + k % 50176)
  let v := nth gy (k / 4816896 * 50176 + k % 50176)
  blend (fun a => nth x (k / 50176 * 50176 + a)) (lowIx u v) (highIx u v) (tabW u v)

/-! ## Where the corners lie -/

/-- `g` truncated to an integer is strictly between an integer's ends. -/
def Fit (g : F .f32) : Prop :=
  -2147483648 < (FloatOps.fptosi 32 g : BitVec 32).toInt ∧ (FloatOps.fptosi 32 g : BitVec 32).toInt < 2147483647

theorem cell_toInt {g : F .f32} (h : Fit g) :
    -2147483648 ≤ (cell g).toInt ∧ (cell g).toInt < 2147483647 := by
  obtain ⟨h1, h2⟩ := h
  unfold cell Scalar.select IntOp.subi
  split
  · rw [BitVec.toInt_sub]
    have : (1#32 : BitVec 32).toInt = 1 := by decide
    rw [this, Int.bmod_def]; omega
  · omega

theorem next_toInt {g : F .f32} (h : Fit g) : (next g).toInt = (cell g).toInt + 1 := by
  have hc := cell_toInt h
  unfold next IntOp.addi
  rw [BitVec.toInt_add]
  have : (1#32 : BitVec 32).toInt = 1 := by decide
  rw [this, Int.bmod_def]; omega

omit [FloatOps F] in
theorem clip_toNat (c : BitVec 32) : (clip c).toNat = (max 0 (min 223 c.toInt)).toNat := by
  have h0 : (0#32 : BitVec 32).toInt = 0 := by decide
  have h223 : (223#32 : BitVec 32).toInt = 223 := by decide
  have n0 : (0#32 : BitVec 32).toNat = 0 := by decide
  have n223 : (223#32 : BitVec 32).toNat = 223 := by decide
  have hc := BitVec.toInt_eq_toNat_cond c
  have hlt := c.isLt
  unfold clip IntOp.minsi IntOp.maxsi
  simp only [BitVec.slt, decide_eq_true_eq, h0]
  by_cases h1 : c.toInt < 0
  · rw [if_pos h1, h0, h223, if_neg (by omega), n0]; omega
  · rw [if_neg h1, h223]
    by_cases h2 : 223 < c.toInt
    · rw [if_pos h2, n223]; omega
    · rw [if_neg h2]
      split at hc <;> omega

omit [FloatOps F] in
theorem clip_lt (c : BitVec 32) : (clip c).toNat < 224 := by
  rw [clip_toNat]; omega

omit [FloatOps F] in
theorem flat_toNat (a b : BitVec 32) :
    (IntOp.addi (IntOp.muli (clip a) 224#32) (clip b)).toNat = (clip a).toNat * 224 + (clip b).toNat := by
  have ha := clip_lt a
  have hb := clip_lt b
  unfold IntOp.addi IntOp.muli
  rw [BitVec.toNat_add, BitVec.toNat_mul]
  simp only [BitVec.toNat_ofNat]
  omega

theorem lowIx_toNat (gx gy : F .f32) : (lowIx gx gy).toNat = (clip (cell gy)).toNat * 224 + (clip (cell gx)).toNat :=
  flat_toNat _ _
theorem highIx_toNat (gx gy : F .f32) : (highIx gx gy).toNat = (clip (next gy)).toNat * 224 + (clip (next gx)).toNat :=
  flat_toNat _ _

theorem lowIx_lt (gx gy : F .f32) : (lowIx gx gy).toNat < 50176 := by
  rw [lowIx_toNat]
  have := clip_lt (cell gy)
  have := clip_lt (cell gx)
  omega
theorem highIx_lt (gx gy : F .f32) : (highIx gx gy).toNat < 50176 := by
  rw [highIx_toNat]
  have := clip_lt (next gy)
  have := clip_lt (next gx)
  omega

/-- A coordinate's two grid lines, moved into the plane, are equal or neighbours. -/
theorem clip_next {g : F .f32} (h : Fit g) :
    (clip (next g)).toNat = (clip (cell g)).toNat ∨ (clip (next g)).toNat = (clip (cell g)).toNat + 1 := by
  rw [clip_toNat, clip_toNat, next_toInt h]; omega

theorem dx_toNat {gx : F .f32} (gy : F .f32) (hx : Fit gx) :
    (dx (lowIx gx gy) (highIx gx gy)).toNat = (clip (next gx)).toNat - (clip (cell gx)).toNat := by
  have h1 := clip_next hx
  have h2 := lowIx_toNat gx gy
  have h3 := highIx_toNat gx gy
  have h4 := clip_lt (cell gy)
  have h5 := clip_lt (cell gx)
  have h6 := clip_lt (next gy)
  have h7 := clip_lt (next gx)
  unfold dx IntOp.andi IntOp.subi
  rw [BitVec.toNat_and, BitVec.toNat_sub, h2, h3]
  simp only [BitVec.toNat_ofNat]
  rw [show 1 % 2 ^ 32 = 1 from rfl, Nat.and_one_is_mod]
  omega

theorem low_dx_toNat {gx : F .f32} (gy : F .f32) (hx : Fit gx) :
    (IntOp.addi (lowIx gx gy) (dx (lowIx gx gy) (highIx gx gy))).toNat
      = (clip (cell gy)).toNat * 224 + (clip (next gx)).toNat := by
  have h1 := clip_next hx
  have h2 := lowIx_toNat gx gy
  have h3 := dx_toNat gy hx
  have h4 := clip_lt (cell gy)
  have h7 := clip_lt (next gx)
  unfold IntOp.addi
  rw [BitVec.toNat_add, h2, h3]
  omega

theorem high_dx_toNat {gx : F .f32} (gy : F .f32) (hx : Fit gx) :
    (IntOp.subi (highIx gx gy) (dx (lowIx gx gy) (highIx gx gy))).toNat
      = (clip (next gy)).toNat * 224 + (clip (cell gx)).toNat := by
  have h1 := clip_next hx
  have h2 := highIx_toNat gx gy
  have h3 := dx_toNat gy hx
  have h4 := clip_lt (next gy)
  have h5 := clip_lt (cell gx)
  have h7 := clip_lt (next gx)
  unfold IntOp.subi
  rw [BitVec.toNat_sub, h2, h3]
  omega

theorem low_dx_lt {gx : F .f32} (gy : F .f32) (hx : Fit gx) :
    (IntOp.addi (lowIx gx gy) (dx (lowIx gx gy) (highIx gx gy))).toNat < 50176 := by
  rw [low_dx_toNat gy hx]
  have h4 := clip_lt (cell gy)
  have h7 := clip_lt (next gx)
  omega
theorem high_dx_lt {gx : F .f32} (gy : F .f32) (hx : Fit gx) :
    (IntOp.subi (highIx gx gy) (dx (lowIx gx gy) (highIx gx gy))).toNat < 50176 := by
  rw [high_dx_toNat gy hx]
  have h4 := clip_lt (next gy)
  have h5 := clip_lt (cell gx)
  omega

end Cert.Vals

end

end
-- ==== Proof.Pre.lean ====
module

public import proofs.«01_k».proof.Pre_columns_fit
public import proofs.«01_k».proof.Proof.Gen.Kernel
public import proofs.«01_k».proof.Proof.Grid
public import proofs.«01_k».proof.Proof.Vals

/-!
# The precondition

`columns_fit` read at one place: the coordinate across the row there, truncated to an integer, lies strictly between
the ends of the 32-bit integers.
-/

@[expose] public section

noncomputable section

namespace Cert.Pre

open Idealize.ShloMosaic
open Cert.Vals

/-- The side conditions the precondition's operations take. -/
instance facts : Cert.Pre_columns_fit.Facts where
  bcast_S_S223 := Cert.Kernel.Gen.bcast_S_S223
  shapeCasts_S_S1 := Cert.Kernel.Gen.shapeCasts_S_S1
  bcast_S1_S223_0 := Cert.Kernel.Gen.bcast_S1_S223_0
  bcast_S_S1 := Cert.Kernel.Gen.bcast_S_S1
  concatenates_S223_S1_S224_d0 := Cert.Kernel.Gen.concatenates_S223_S1_S224_d0
  bcast_S224_S224x224_0 := Cert.Kernel.Gen.bcast_S224_S224x224_0
  bcast_S224_S224x224_1 := Cert.Kernel.Gen.bcast_S224_S224x224_1
  bcast_S224x224_S224x224x1_0_1 := Cert.Kernel.Gen.bcast_S224x224_S224x224x1_0_1
  concatenates_S224x224x1_S224x224x1_S224x224x2_d2 := Cert.Kernel.Gen.concatenates_S224x224x1_S224x224x1_S224x224x2_d2
  bcast_S224x224x2_S1x224x224x2_1_2_3 := Cert.Kernel.Gen.bcast_S224x224x2_S1x224x224x2_1_2_3
  bcast_S1x224x224x2_S4x224x224x2_0_1_2_3 := Cert.Kernel.Gen.bcast_S1x224x224x2_S4x224x224x2_0_1_2_3
  shapeCasts_S4x50176x2_S4x224x224x2 := Cert.Kernel.Gen.shapeCasts_S4x50176x2_S4x224x224x2
  shapeCasts_S2_S1x1x1x2 := Cert.Kernel.Gen.shapeCasts_S2_S1x1x1x2
  bcast_S1x1x1x2_S4x224x224x2_0_1_2_3 := Cert.Kernel.Gen.bcast_S1x1x1x2_S4x224x224x2_0_1_2_3
  bcast_S_S4x224x224x2 := Cert.Kernel.Gen.bcast_S_S4x224x224x2
  slices_S4x224x224x2_S4x224x224x1_0_0_0_0 := Cert.Kernel.Gen.slices_S4x224x224x2_S4x224x224x1_0_0_0_0
  shapeCasts_S4x224x224x1_S4x224x224 := Cert.Kernel.Gen.shapeCasts_S4x224x224x1_S4x224x224
  bcast_S_S4x224x224 := Cert.Kernel.Gen.bcast_S_S4x224x224

variable {F : FTy → Type} [FloatOps F]

/-- The precondition's bit at a place. -/
def fitBit (u : F .f32) : BitVec 1 :=
  IntOp.andi (IntOp.cmpi .sgt (FloatOps.fptosi 32 u) 2147483648#32) (IntOp.cmpi .slt (FloatOps.fptosi 32 u) 2147483647#32)

theorem fn_at (off : FVec F Cert.Kernel.S4x50176x2 .f32) (x : FVec F Cert.Kernel.S4x96x224x224 .f32) (p : Cert.Kernel.S4x224x224.Idx) :
    Cert.Pre_columns_fit.fn off x p = fitBit (coordX off p) := rfl

theorem fit_of_bit {u : F .f32} (h : fitBit u = 1#1) : Fit u := by
  have hand : ∀ a b : BitVec 1, IntOp.andi a b = 1#1 → a = 1#1 ∧ b = 1#1 := by decide
  obtain ⟨h1, h2⟩ := hand _ _ h
  have hb : ∀ b : Bool, BitVec.ofBool b = 1#1 → b = true := by decide
  have lo : (2147483648#32 : BitVec 32).toInt = -2147483648 := by decide
  have hi : (2147483647#32 : BitVec 32).toInt = 2147483647 := by decide
  have h1 := hb _ h1
  have h2 := hb _ h2
  simp only [BitVec.slt, decide_eq_true_eq, lo] at h1
  simp only [BitVec.slt, decide_eq_true_eq, hi] at h2
  exact ⟨h1, h2⟩

/-- Where the precondition holds, every coordinate across fits. -/
theorem fits {off : FVec F Cert.Kernel.S4x50176x2 .f32} {x : FVec F Cert.Kernel.S4x96x224x224 .f32}
    (h : Cert.Pre_columns_fit.fn off x = fun _ => 1#1) (p : Cert.Kernel.S4x224x224.Idx) : Fit (coordX off p) :=
  fit_of_bit ((fn_at off x p).symm.trans (congrFun h p))

end Cert.Pre

end

end
-- ==== Proof.IHost.lean ====
module

public import proofs.«01_k».proof.Proof.Gen.KernelIdeal
public import proofs.«01_k».proof.Proof.Grid
public import Idealize.ShloMosaic.Lib.StableHlo.Run
public import Idealize.ShloMosaic.Lib.StableHlo.RunHlo
public import Idealize.ShloMosaic.Lib.StableHlo.RunRead
public import Idealize.ShloMosaic.Lib.SparseCore.Ops

/-!
# The host operations around the call

`main` computes the sampling coordinates of every place and lays its operands out flat, makes the call, and gives
the result its shape. The operations before the call as lists, and what the call's operands hold after them.
-/

@[expose] public section

set_option maxRecDepth 8192

noncomputable section

namespace Cert.KernelIdeal.Host

open Cert.KernelIdeal Cert.KernelIdeal.Gen
open Idealize.ShloMosaic Idealize.ShloMosaic.TcCoe Idealize.SL.Sem Idealize.ShloMosaic.StableHlo
open Cert.Vals

variable {F : FTy → Type} [FloatOps F]

/-- A row of points from its first 223 and its last. -/
def joinLine (a : FVec F S223 .f32) (b : FVec F S1 .f32) : FVec F S224 .f32 := concatenate S224 0 [⟨S223, a⟩, ⟨S1, b⟩] concatenates_S223_S1_S224_d0
/-- Places from their two coordinates. -/
def joinPoints (a b : FVec F S224x224x1 .f32) : FVec F S224x224x2 .f32 :=
  concatenate S224x224x2 2 [⟨S224x224x1, a⟩, ⟨S224x224x1, b⟩] concatenates_S224x224x1_S224x224x1_S224x224x2_d2

/-- The first lines, to the ends of the first row of points. -/
abbrev hostA : List (HloOp τ sig (Elt F)) :=
  [StableHlo.nullary main_cst (constant S2 .f32 0x43600000#32),
    StableHlo.reshape main_arg0 main_v0 (rfl : (.f32 : EltTy) = .f32) shapeCasts_S4x50176x2_S4x224x224x2,
    StableHlo.nullary main_cst_0 (constant S_ .f32 0xBF800000#32),
    StableHlo.nullary main_cst_1 (constant S_ .f32 0x3F800000#32)]

/-- The first row of points. -/
abbrev hostLine0 : List (HloOp τ sig (Elt F)) :=
  [StableHlo.TRef.unary (.of main_cst_0) main_call0.v0 id,
    StableHlo.TRef.unary (.of main_cst_1) main_call0.v1 id,
    StableHlo.TRef.binary main_call0.v1 main_call0.v0 main_call0.v2 subf,
    StableHlo.TRef.nullary main_call0.cst (constant S_ .f32 0x435F0000#32),
    StableHlo.TRef.binary main_call0.v2 main_call0.cst main_call0.v3 Host.divf,
    StableHlo.TRef.nullary main_call0.v4 (sitofp .f32 (iotaInDim S223 32 0)),
    StableHlo.TRef.nullary main_call0.cst_0 (constant S_ .f32 0x435F0000#32),
    StableHlo.TRef.unary main_call0.cst_0 main_call0.v5 (broadcastInDim S223 ![] bcast_S_S223),
    StableHlo.TRef.binary main_call0.v4 main_call0.v5 main_call0.v6 Host.divf,
    StableHlo.TRef.reshape main_call0.v0 main_call0.v7 (rfl : (.f32 : EltTy) = .f32) shapeCasts_S_S1,
    StableHlo.TRef.nullary main_call0.cst_1 (constant S_ .f32 0x3F800000#32),
    StableHlo.TRef.unary main_call0.cst_1 main_call0.v8 (broadcastInDim S223 ![] bcast_S_S223),
    StableHlo.TRef.binary main_call0.v8 main_call0.v6 main_call0.v9 subf,
    StableHlo.TRef.unary main_call0.v7 main_call0.v10 (broadcastInDim S223 ![0] bcast_S1_S223_0),
    StableHlo.TRef.binary main_call0.v10 main_call0.v9 main_call0.v11 mulf,
    StableHlo.TRef.reshape main_call0.v1 main_call0.v12 (rfl : (.f32 : EltTy) = .f32) shapeCasts_S_S1,
    StableHlo.TRef.unary main_call0.v12 main_call0.v13 (broadcastInDim S223 ![0] bcast_S1_S223_0),
    StableHlo.TRef.binary main_call0.v13 main_call0.v6 main_call0.v14 mulf,
    StableHlo.TRef.binary main_call0.v11 main_call0.v14 main_call0.v15 addf,
    StableHlo.TRef.unary main_call0.v1 main_call0.v16 (broadcastInDim S1 ![] bcast_S_S1),
    StableHlo.TRef.binary main_call0.v15 main_call0.v16 main_call0.v17 joinLine]

/-- The ends of the second. -/
abbrev hostB : List (HloOp τ sig (Elt F)) :=
  [StableHlo.nullary main_cst_2 (constant S_ .f32 0xBF800000#32),
    StableHlo.nullary main_cst_3 (constant S_ .f32 0x3F800000#32)]

/-- The second row of points. -/
abbrev hostLine1 : List (HloOp τ sig (Elt F)) :=
  [StableHlo.TRef.unary (.of main_cst_2) main_call1.v0 id,
    StableHlo.TRef.unary (.of main_cst_3) main_call1.v1 id,
    StableHlo.TRef.binary main_call1.v1 main_call1.v0 main_call1.v2 subf,
    StableHlo.TRef.nullary main_call1.cst (constant S_ .f32 0x435F0000#32),
    StableHlo.TRef.binary main_call1.v2 main_call1.cst main_call1.v3 Host.divf,
    StableHlo.TRef.nullary main_call1.v4 (sitofp .f32 (iotaInDim S223 32 0)),
    StableHlo.TRef.nullary main_call1.cst_0 (constant S_ .f32 0x435F0000#32),
    StableHlo.TRef.unary main_call1.cst_0 main_call1.v5 (broadcastInDim S223 ![] bcast_S_S223),
    StableHlo.TRef.binary main_call1.v4 main_call1.v5 main_call1.v6 Host.divf,
    StableHlo.TRef.reshape main_call1.v0 main_call1.v7 (rfl : (.f32 : EltTy) = .f32) shapeCasts_S_S1,
    StableHlo.TRef.nullary main_call1.cst_1 (constant S_ .f32 0x3F800000#32),
    StableHlo.TRef.unary main_call1.cst_1 main_call1.v8 (broadcastInDim S223 ![] bcast_S_S223),
    StableHlo.TRef.binary main_call1.v8 main_call1.v6 main_call1.v9 subf,
    StableHlo.TRef.unary main_call1.v7 main_call1.v10 (broadcastInDim S223 ![0] bcast_S1_S223_0),
    StableHlo.TRef.binary main_call1.v10 main_call1.v9 main_call1.v11 mulf,
    StableHlo.TRef.reshape main_call1.v1 main_call1.v12 (rfl : (.f32 : EltTy) = .f32) shapeCasts_S_S1,
    StableHlo.TRef.unary main_call1.v12 main_call1.v13 (broadcastInDim S223 ![0] bcast_S1_S223_0),
    StableHlo.TRef.binary main_call1.v13 main_call1.v6 main_call1.v14 mulf,
    StableHlo.TRef.binary main_call1.v11 main_call1.v14 main_call1.v15 addf,
    StableHlo.TRef.unary main_call1.v1 main_call1.v16 (broadcastInDim S1 ![] bcast_S_S1),
    StableHlo.TRef.binary main_call1.v15 main_call1.v16 main_call1.v17 joinLine]

/-- The sampling coordinates, and the flat operands of the call. -/
abbrev hostC : List (HloOp τ sig (Elt F)) :=
  [StableHlo.unary main_v1 main_v3 (broadcastInDim S224x224 ![0] bcast_S224_S224x224_0 : (⟨S224, .f32⟩ : BufTy).Contents (Elt F) → (⟨S224x224, .f32⟩ : BufTy).Contents (Elt F)),
    StableHlo.unary main_v2 main_v4 (broadcastInDim S224x224 ![1] bcast_S224_S224x224_1 : (⟨S224, .f32⟩ : BufTy).Contents (Elt F) → (⟨S224x224, .f32⟩ : BufTy).Contents (Elt F)),
    StableHlo.unary main_v4 main_v5 (broadcastInDim S224x224x1 ![0, 1] bcast_S224x224_S224x224x1_0_1 : (⟨S224x224, .f32⟩ : BufTy).Contents (Elt F) → (⟨S224x224x1, .f32⟩ : BufTy).Contents (Elt F)),
    StableHlo.unary main_v3 main_v6 (broadcastInDim S224x224x1 ![0, 1] bcast_S224x224_S224x224x1_0_1 : (⟨S224x224, .f32⟩ : BufTy).Contents (Elt F) → (⟨S224x224x1, .f32⟩ : BufTy).Contents (Elt F)),
    StableHlo.binary main_v5 main_v6 main_v7 (joinPoints : (⟨S224x224x1, .f32⟩ : BufTy).Contents (Elt F) → (⟨S224x224x1, .f32⟩ : BufTy).Contents (Elt F) → (⟨S224x224x2, .f32⟩ : BufTy).Contents (Elt F)),
    StableHlo.unary main_v7 main_v8 (broadcastInDim S1x224x224x2 ![1, 2, 3] bcast_S224x224x2_S1x224x224x2_1_2_3 : (⟨S224x224x2, .f32⟩ : BufTy).Contents (Elt F) → (⟨S1x224x224x2, .f32⟩ : BufTy).Contents (Elt F)),
    StableHlo.unary main_v8 main_v9 (broadcastInDim S4x224x224x2 ![0, 1, 2, 3] bcast_S1x224x224x2_S4x224x224x2_0_1_2_3 : (⟨S1x224x224x2, .f32⟩ : BufTy).Contents (Elt F) → (⟨S4x224x224x2, .f32⟩ : BufTy).Contents (Elt F)),
    StableHlo.reshape main_cst main_v10 (rfl : (.f32 : EltTy) = .f32) shapeCasts_S2_S1x1x1x2,
    StableHlo.unary main_v10 main_v11 (broadcastInDim S4x224x224x2 ![0, 1, 2, 3] bcast_S1x1x1x2_S4x224x224x2_0_1_2_3 : (⟨S1x1x1x2, .f32⟩ : BufTy).Contents (Elt F) → (⟨S4x224x224x2, .f32⟩ : BufTy).Contents (Elt F)),
    StableHlo.binary main_v0 main_v11 main_v12 (Host.divf : (⟨S4x224x224x2, .f32⟩ : BufTy).Contents (Elt F) → (⟨S4x224x224x2, .f32⟩ : BufTy).Contents (Elt F) → (⟨S4x224x224x2, .f32⟩ : BufTy).Contents (Elt F)),
    StableHlo.nullary main_cst_4 (constant S_ .f32 0x40000000#32),
    StableHlo.unary main_cst_4 main_v13 (broadcastInDim S4x224x224x2 ![] bcast_S_S4x224x224x2 : (⟨S_, .f32⟩ : BufTy).Contents (Elt F) → (⟨S4x224x224x2, .f32⟩ : BufTy).Contents (Elt F)),
    StableHlo.binary main_v12 main_v13 main_v14 (mulf : (⟨S4x224x224x2, .f32⟩ : BufTy).Contents (Elt F) → (⟨S4x224x224x2, .f32⟩ : BufTy).Contents (Elt F) → (⟨S4x224x224x2, .f32⟩ : BufTy).Contents (Elt F)),
    StableHlo.binary main_v9 main_v14 main_v15 (addf : (⟨S4x224x224x2, .f32⟩ : BufTy).Contents (Elt F) → (⟨S4x224x224x2, .f32⟩ : BufTy).Contents (Elt F) → (⟨S4x224x224x2, .f32⟩ : BufTy).Contents (Elt F)),
    StableHlo.unary main_v15 main_v16 ((extractStridedSlice S4x224x224x1 ![0, 0, 0, 0] · slices_S4x224x224x2_S4x224x224x1_0_0_0_0) : (⟨S4x224x224x2, .f32⟩ : BufTy).Contents (Elt F) → (⟨S4x224x224x1, .f32⟩ : BufTy).Contents (Elt F)),
    StableHlo.reshape main_v16 main_v17 (rfl : (.f32 : EltTy) = .f32) shapeCasts_S4x224x224x1_S4x224x224,
    StableHlo.nullary main_cst_5 (constant S_ .f32 0x3F800000#32),
    StableHlo.unary main_cst_5 main_v18 (broadcastInDim S4x224x224 ![] bcast_S_S4x224x224 : (⟨S_, .f32⟩ : BufTy).Contents (Elt F) → (⟨S4x224x224, .f32⟩ : BufTy).Contents (Elt F)),
    StableHlo.binary main_v17 main_v18 main_v19 (addf : (⟨S4x224x224, .f32⟩ : BufTy).Contents (Elt F) → (⟨S4x224x224, .f32⟩ : BufTy).Contents (Elt F) → (⟨S4x224x224, .f32⟩ : BufTy).Contents (Elt F)),
    StableHlo.nullary main_cst_6 (constant S_ .f32 0x3F000000#32),
    StableHlo.unary main_cst_6 main_v20 (broadcastInDim S4x224x224 ![] bcast_S_S4x224x224 : (⟨S_, .f32⟩ : BufTy).Contents (Elt F) → (⟨S4x224x224, .f32⟩ : BufTy).Contents (Elt F)),
    StableHlo.binary main_v19 main_v20 main_v21 (mulf : (⟨S4x224x224, .f32⟩ : BufTy).Contents (Elt F) → (⟨S4x224x224, .f32⟩ : BufTy).Contents (Elt F) → (⟨S4x224x224, .f32⟩ : BufTy).Contents (Elt F)),
    StableHlo.nullary main_cst_7 (constant S_ .f32 0x435F0000#32),
    StableHlo.unary main_cst_7 main_v22 (broadcastInDim S4x224x224 ![] bcast_S_S4x224x224 : (⟨S_, .f32⟩ : BufTy).Contents (Elt F) → (⟨S4x224x224, .f32⟩ : BufTy).Contents (Elt F)),
    StableHlo.binary main_v21 main_v22 main_v23 (mulf : (⟨S4x224x224, .f32⟩ : BufTy).Contents (Elt F) → (⟨S4x224x224, .f32⟩ : BufTy).Contents (Elt F) → (⟨S4x224x224, .f32⟩ : BufTy).Contents (Elt F)),
    StableHlo.unary main_v15 main_v24 ((extractStridedSlice S4x224x224x1 ![0, 0, 0, 1] · slices_S4x224x224x2_S4x224x224x1_0_0_0_1) : (⟨S4x224x224x2, .f32⟩ : BufTy).Contents (Elt F) → (⟨S4x224x224x1, .f32⟩ : BufTy).Contents (Elt F)),
    StableHlo.reshape main_v24 main_v25 (rfl : (.f32 : EltTy) = .f32) shapeCasts_S4x224x224x1_S4x224x224,
    StableHlo.nullary main_cst_8 (constant S_ .f32 0x3F800000#32),
    StableHlo.unary main_cst_8 main_v26 (broadcastInDim S4x224x224 ![] bcast_S_S4x224x224 : (⟨S_, .f32⟩ : BufTy).Contents (Elt F) → (⟨S4x224x224, .f32⟩ : BufTy).Contents (Elt F)),
    StableHlo.binary main_v25 main_v26 main_v27 (addf : (⟨S4x224x224, .f32⟩ : BufTy).Contents (Elt F) → (⟨S4x224x224, .f32⟩ : BufTy).Contents (Elt F) → (⟨S4x224x224, .f32⟩ : BufTy).Contents (Elt F)),
    StableHlo.nullary main_cst_9 (constant S_ .f32 0x3F000000#32),
    StableHlo.unary main_cst_9 main_v28 (broadcastInDim S4x224x224 ![] bcast_S_S4x224x224 : (⟨S_, .f32⟩ : BufTy).Contents (Elt F) → (⟨S4x224x224, .f32⟩ : BufTy).Contents (Elt F)),
    StableHlo.binary main_v27 main_v28 main_v29 (mulf : (⟨S4x224x224, .f32⟩ : BufTy).Contents (Elt F) → (⟨S4x224x224, .f32⟩ : BufTy).Contents (Elt F) → (⟨S4x224x224, .f32⟩ : BufTy).Contents (Elt F)),
    StableHlo.nullary main_cst_10 (constant S_ .f32 0x435F0000#32),
    StableHlo.unary main_cst_10 main_v30 (broadcastInDim S4x224x224 ![] bcast_S_S4x224x224 : (⟨S_, .f32⟩ : BufTy).Contents (Elt F) → (⟨S4x224x224, .f32⟩ : BufTy).Contents (Elt F)),
    StableHlo.binary main_v29 main_v30 main_v31 (mulf : (⟨S4x224x224, .f32⟩ : BufTy).Contents (Elt F) → (⟨S4x224x224, .f32⟩ : BufTy).Contents (Elt F) → (⟨S4x224x224, .f32⟩ : BufTy).Contents (Elt F)),
    StableHlo.reshape main_arg1 main_v32 (rfl : (.f32 : EltTy) = .f32) shapeCasts_S4x96x224x224_S19267584,
    StableHlo.reshape main_v23 main_v33 (rfl : (.f32 : EltTy) = .f32) shapeCasts_S4x224x224_S200704,
    StableHlo.reshape main_v31 main_v34 (rfl : (.f32 : EltTy) = .f32) shapeCasts_S4x224x224_S200704]

/-- Everything before the call. -/
abbrev hostOps : List (HloOp τ sig (Elt F)) := hostA ++ (hostLine0 ++ (hostB ++ (hostLine1 ++ hostC)))
/-- The one after it. -/
abbrev hostOut : HloOp τ sig (Elt F) := StableHlo.reshape main_v35 main_v36 (rfl : (.f32 : EltTy) = .f32) shapeCasts_S19267584_S4x96x224x224

abbrev ΛM : Labels := SparseCore.Sig (Pipeline.Sig Λ₀ (Fin 0) fun p => (pcfgs (F := F) p).Adm) 1

theorem main_eq (d : Dev nD) : main (F := F) d = seq (Λ := ΛM (F := F)) hostOps >>= fun _ => sc.run d 0 >>= fun _ => hlo rfl hostOut fun _ => .ret ⟨⟩ := by
  rw [seq_append, seq_append, seq_append, seq_append]
  rfl

/-! ## The operations' sides -/

theorem hostOps_sub : ∀ op ∈ (hostOps : List (HloOp τ sig (Elt F))), op.bufs ⊆ tcRefs τ sig := by
  have hA : ∀ op ∈ (hostA : List (HloOp τ sig (Elt F))), op.bufs ⊆ tcRefs τ sig := List.forall_iff_forall_mem.1 (by simp)
  have h0 : ∀ op ∈ (hostLine0 : List (HloOp τ sig (Elt F))), op.bufs ⊆ tcRefs τ sig := List.forall_iff_forall_mem.1 (by simp)
  have hB : ∀ op ∈ (hostB : List (HloOp τ sig (Elt F))), op.bufs ⊆ tcRefs τ sig := List.forall_iff_forall_mem.1 (by simp)
  have h1 : ∀ op ∈ (hostLine1 : List (HloOp τ sig (Elt F))), op.bufs ⊆ tcRefs τ sig := List.forall_iff_forall_mem.1 (by simp)
  have hC : ∀ op ∈ (hostC : List (HloOp τ sig (Elt F))), op.bufs ⊆ tcRefs τ sig := List.forall_iff_forall_mem.1 (by simp)
  intro op h
  rcases List.mem_append.1 h with h | h; · exact hA op h
  rcases List.mem_append.1 h with h | h; · exact h0 op h
  rcases List.mem_append.1 h with h | h; · exact hB op h
  rcases List.mem_append.1 h with h | h; · exact h1 op h
  exact hC op h

theorem hostOps_fresh : ∀ op ∈ (hostOps : List (HloOp τ sig (Elt F))), op.fresh = ∅ := by
  intro _ h; (repeat (cases h with | head => rfl | tail _ h => ?_)); exact nomatch h

/-! ## What the call's operands hold -/

variable (V : Valuation τ sig (Elt F))

theorem read_x : after hostOps V (Proc.devRef .tc main_v32) = shapeCast S19267584 (V (Proc.devRef .tc main_arg1) : S4x96x224x224.Idx → F .f32) shapeCasts_S4x96x224x224_S19267584 := by
  simp only [hostOps, hostA, hostLine0, hostB, hostLine1, hostC, List.cons_append, List.nil_append]
  after_reads_simp
  rfl

theorem line0_v1 (h0 : V (Proc.devRef .tc main_cst_0) = (constant S_ .f32 0xBF800000#32 : FVec F S_ .f32)) (h1 : V (Proc.devRef .tc main_cst_1) = (constant S_ .f32 0x3F800000#32 : FVec F S_ .f32)) :
    after hostLine0 V (Proc.devRef .tc main_v1) = (line : FVec F S224 .f32) := by
  unfold hostLine0
  after_reads_simp
  rw [h0, h1]
  rfl
theorem line0_v0 : after hostLine0 V (Proc.devRef .tc main_v0) = V (Proc.devRef .tc main_v0) := by
  unfold hostLine0; after_reads_simp
theorem line0_cst : after hostLine0 V (Proc.devRef .tc main_cst) = V (Proc.devRef .tc main_cst) := by
  unfold hostLine0; after_reads_simp

theorem line1_v2 (h0 : V (Proc.devRef .tc main_cst_2) = (constant S_ .f32 0xBF800000#32 : FVec F S_ .f32)) (h1 : V (Proc.devRef .tc main_cst_3) = (constant S_ .f32 0x3F800000#32 : FVec F S_ .f32)) :
    after hostLine1 V (Proc.devRef .tc main_v2) = (line : FVec F S224 .f32) := by
  unfold hostLine1
  after_reads_simp
  rw [h0, h1]
  rfl
theorem line1_v1 : after hostLine1 V (Proc.devRef .tc main_v1) = V (Proc.devRef .tc main_v1) := by
  unfold hostLine1; after_reads_simp
theorem line1_v0 : after hostLine1 V (Proc.devRef .tc main_v0) = V (Proc.devRef .tc main_v0) := by
  unfold hostLine1; after_reads_simp
theorem line1_cst : after hostLine1 V (Proc.devRef .tc main_cst) = V (Proc.devRef .tc main_cst) := by
  unfold hostLine1; after_reads_simp

theorem last_gx (off : FVec F S4x50176x2 .f32) (hc : V (Proc.devRef .tc main_cst) = (constant S2 .f32 0x43600000#32 : FVec F S2 .f32))
    (h0 : V (Proc.devRef .tc main_v0) = shapeCast S4x224x224x2 off shapeCasts_S4x50176x2_S4x224x224x2)
    (h1 : V (Proc.devRef .tc main_v1) = (line : FVec F S224 .f32)) (h2 : V (Proc.devRef .tc main_v2) = (line : FVec F S224 .f32)) :
    after hostC V (Proc.devRef .tc main_v33) = shapeCast S200704 (coordX off) shapeCasts_S4x224x224_S200704 := by
  unfold hostC
  after_reads_simp
  rw [hc, h0, h1, h2]
  rfl
theorem last_gy (off : FVec F S4x50176x2 .f32) (hc : V (Proc.devRef .tc main_cst) = (constant S2 .f32 0x43600000#32 : FVec F S2 .f32))
    (h0 : V (Proc.devRef .tc main_v0) = shapeCast S4x224x224x2 off shapeCasts_S4x50176x2_S4x224x224x2)
    (h1 : V (Proc.devRef .tc main_v1) = (line : FVec F S224 .f32)) (h2 : V (Proc.devRef .tc main_v2) = (line : FVec F S224 .f32)) :
    after hostC V (Proc.devRef .tc main_v34) = shapeCast S200704 (coordY off) shapeCasts_S4x224x224_S200704 := by
  unfold hostC
  after_reads_simp
  rw [hc, h0, h1, h2]
  rfl

/-- What the last stage starts from. -/
theorem stages : let V4 := after hostLine1 (after hostB (after hostLine0 (after hostA V)))
    V4 (Proc.devRef .tc main_cst) = (constant S2 .f32 0x43600000#32 : FVec F S2 .f32)
      ∧ V4 (Proc.devRef .tc main_v0) = shapeCast S4x224x224x2 (V (Proc.devRef .tc main_arg0) : S4x50176x2.Idx → F .f32) shapeCasts_S4x50176x2_S4x224x224x2
      ∧ V4 (Proc.devRef .tc main_v1) = (line : FVec F S224 .f32) ∧ V4 (Proc.devRef .tc main_v2) = (line : FVec F S224 .f32) := by
  have b0 (W : Valuation τ sig (Elt F)) : after hostB W (Proc.devRef .tc main_v0) = W (Proc.devRef .tc main_v0) := by unfold hostB; after_reads_simp
  have b1 (W : Valuation τ sig (Elt F)) : after hostB W (Proc.devRef .tc main_v1) = W (Proc.devRef .tc main_v1) := by unfold hostB; after_reads_simp
  have b2 (W : Valuation τ sig (Elt F)) : after hostB W (Proc.devRef .tc main_cst) = W (Proc.devRef .tc main_cst) := by unfold hostB; after_reads_simp
  refine ⟨?_, ?_, ?_, ?_⟩
  · rw [line1_cst, b2, line0_cst]; unfold hostA; after_reads_simp
  · rw [line1_v0, b0, line0_v0]; unfold hostA; after_reads_simp; rfl
  · rw [line1_v1, b1]; exact line0_v1 _ (by unfold hostA; after_reads_simp) (by unfold hostA; after_reads_simp)
  · exact line1_v2 _ (by unfold hostB; after_reads_simp) (by unfold hostB; after_reads_simp)

theorem read_gx : after hostOps V (Proc.devRef .tc main_v33) = shapeCast S200704 (coordX (V (Proc.devRef .tc main_arg0) : S4x50176x2.Idx → F .f32)) shapeCasts_S4x224x224_S200704 := by
  have h := stages V
  exact last_gx _ _ h.1 h.2.1 h.2.2.1 h.2.2.2
theorem read_gy : after hostOps V (Proc.devRef .tc main_v34) = shapeCast S200704 (coordY (V (Proc.devRef .tc main_arg0) : S4x50176x2.Idx → F .f32)) shapeCasts_S4x224x224_S200704 := by
  have h := stages V
  exact last_gy _ _ h.1 h.2.1 h.2.2.1 h.2.2.2

theorem keep_off : after hostOps V (Proc.devRef .tc main_arg0) = V (Proc.devRef .tc main_arg0) := by
  simp only [hostOps, hostA, hostLine0, hostB, hostLine1, hostC, List.cons_append, List.nil_append]
  after_reads_simp

theorem keep_x : after hostOps V (Proc.devRef .tc main_arg1) = V (Proc.devRef .tc main_arg1) := by
  simp only [hostOps, hostA, hostLine0, hostB, hostLine1, hostC, List.cons_append, List.nil_append]
  after_reads_simp

end Cert.KernelIdeal.Host

end

end
-- ==== Proof.IOffs.lean ====
module

public import proofs.«01_k».proof.Proof.Gen.KernelIdeal

/-!
# Where the kernel's windows lie

The printed program computes each window's offset by a chain of word operations on the tile's coordinates
and the loop counters. Each lemma says what the chain comes to. `c` is the SparseCore, `s` the tile on it.
-/

@[expose] public section

namespace Cert.KernelIdeal.Tile

open Idealize.ShloMosaic

/-- Phase 1, trip `t1`: the columns of the coordinate tables the tile reads. -/
theorem off1_eq : ∀ (i : grid0.Coords) (t : Fin k0_t1_loop.trips),
    k0_off1 i t = ![(i 0).val * 100352 + (i 1).val * 6272 + 896 * t.val] := by decide +kernel
/-- Phase 1, trip `t1`: the columns of the shared index table the tile fills. -/
theorem off9_eq : ∀ (i : grid0.Coords) (t : Fin k0_t1_loop.trips),
    k0_off9 i t = ![0, (i 1).val * 6272 + 896 * t.val] := by decide +kernel
/-- The same columns of the shared weight table. -/
theorem off10_eq : ∀ (i : grid0.Coords) (t : Fin k0_t1_loop.trips),
    k0_off10 i t = ![0, (i 1).val * 6272 + 896 * t.val] := by decide +kernel
/-- Phase 2, trip `t3`: the plane the tile reads. -/
theorem off11_eq : ∀ (i : grid0.Coords) (t : Fin k0_t3_loop.trips),
    k0_off11 i t = ![((2 * (i 0).val + t.val / 6) * 96 + (i 1).val * 6 + t.val % 6) * 50176] := by decide +kernel
/-- Phase 2: the columns of the shared index table a chunk reads. -/
theorem off12_eq : ∀ (t : Fin k0_t3_loop.trips) (q : Fin k0_t4_loop.trips),
    k0_off12 t q = ![0, (t.val / 6) * 50176 + 3584 * q.val] := by decide +kernel
/-- The same columns of the shared weight table. -/
theorem off13_eq : ∀ (t : Fin k0_t3_loop.trips) (q : Fin k0_t4_loop.trips),
    k0_off13 t q = ![0, (t.val / 6) * 50176 + 3584 * q.val] := by decide +kernel
/-- Phase 2: the places of the result a chunk fills. -/
theorem off21_eq : ∀ (i : grid0.Coords) (t : Fin k0_t3_loop.trips) (q : Fin k0_t4_loop.trips),
    k0_off21 i t q = ![((2 * (i 0).val + t.val / 6) * 96 + (i 1).val * 6 + t.val % 6) * 50176 + 3584 * q.val] := by
  decide +kernel

end Cert.KernelIdeal.Tile
-- ==== Proof.IBase.lean ====
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.IOffs
public import proofs.«01_k».proof.Proof.Vals

/-!
# The kernel's threads, buffers and resources

A tile `(c, s)` runs the body at its grid coordinates `L`. Its arguments: the flat input `xV` with the two flat
coordinate tables `gxV`, `gyV` (read by every tile), the flat result `oV`, the tile's own scratch, and the
SparseCore's two shared tables `shI`, `shW` (the corner places and the corner weights).
-/

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The buffers, as a tile addresses them -/

abbrev xV : Memref sig .scVector .hbm S19267584 .f32 := Memref.whole main_v32_scv
abbrev gxV : Memref sig .scVector .hbm S200704 .f32 := Memref.whole main_v33_scv
abbrev gyV : Memref sig .scVector .hbm S200704 .f32 := Memref.whole main_v34_scv
abbrev oV : Memref sig .scVector .hbm S19267584 .f32 := Memref.whole main_v35_scv
abbrev plV : Memref sig .scVector .vmem S50176 .f32 := Memref.whole cc0_scratch0
abbrev ciV : Memref sig .scVector .vmem S2x3584 .i32 := Memref.whole cc0_scratch1
abbrev cwV : Memref sig .scVector .vmem S4x3584 .f32 := Memref.whole cc0_scratch2
abbrev obV : Memref sig .scVector .vmem S3584 .f32 := Memref.whole cc0_scratch3
abbrev bxV : Memref sig .scVector .vmem S896 .f32 := Memref.whole cc0_scratch4
abbrev byV : Memref sig .scVector .vmem S896 .f32 := Memref.whole cc0_scratch5
abbrev biV : Memref sig .scVector .vmem S2x896 .i32 := Memref.whole cc0_scratch6
abbrev bwV : Memref sig .scVector .vmem S4x896 .f32 := Memref.whole cc0_scratch7
abbrev shI : Memref sig .scVector .shared S2x100352 .i32 := Memref.whole cc0_scratch8
abbrev shW : Memref sig .scVector .shared S4x100352 .f32 := Memref.whole cc0_scratch9

/-- The tile at the grid coordinates `L`. -/
abbrev tile (d : Dev nD) (L : grid0.Coords) : Thread nD τ := V d ((L 0).castLE hcore0) ((L 1).castLE hsub0)

end Cert.KernelIdeal.Tile

end

end
-- ==== Proof.IPhase1.lean ====
module

public import proofs.«01_k».proof.Proof.IBase
public import Idealize.ShloMosaic.Lib.ValueLayout
public import Idealize.ShloMosaic.Lib.Writes

/-!
# Phase 1: the tile's block of the two shared tables
-/

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Vals

variable {F : FTy → Type} [FloatOps F]

local notation "𝕄" => MT nD τ sig (HIx 1) (Elt F) ℕ UU ℕ

variable (d : Dev nD) (L : grid0.Coords)

/-- The index buffer's columns below `n` hold the index table's, of the coordinates `fx`, `fy`. -/
def HasI (fx fy : S896.Idx → F .f32) (n : Nat) (f : S2x896.Idx → BitVec 32) : Prop :=
  ∀ y : S2x896.Idx, (y 1).val < n → f y = tabI (nth fx (y 1).val) (nth fy (y 1).val) (y 0).val
/-- The weight buffer's columns below `n` hold the weight table's. -/
def HasW (fx fy : S896.Idx → F .f32) (n : Nat) (f : S4x896.Idx → F .f32) : Prop :=
  ∀ y : S4x896.Idx, (y 1).val < n → f y = tabW (nth fx (y 1).val) (nth fy (y 1).val) (y 0).val

/-- A buffer after a list of stores holds `G` where each store writes `G`'s values and either some store reached
    the place or the buffer held `G`'s value there before. -/
theorem writes_apply {κ : Kind} {sp : Space} {s : Shape} {e : EltTy} (v : View sig κ sp s e) (f : v.ty.Contents (Elt F))
    (G : s.Idx → Elt F e) (l : List (View.Piece (Elt F) s e)) (hl : ∀ p ∈ l, ∀ x : p.1.shape.Idx, p.2 x = G (p.1.emb x))
    (y : s.Idx) (hy : (∃ p ∈ l, y ∈ p.1.set) ∨ v.read (Elt F) f y = G y) :
    v.read (Elt F) (v.writes (Elt F) f l) y = G y := by
  by_cases h : ∃ p ∈ l, y ∈ p.1.set
  · exact View.read_writes_apply_of_pieces v f G l hl y h
  · rw [View.read_writes_apply_of_forall_not_mem v f y l (fun p hp hm => h ⟨p, hp, hm⟩)]
    exact hy.resolve_left h

/-- A view written whole reads as what was written. -/
theorem writes_whole {κ : Kind} {sp : Space} {s : Shape} {e : EltTy} (v : View sig κ sp s e) (f : v.ty.Contents (Elt F))
    (p : s.Idx → Elt F e) (y : s.Idx) : v.read (Elt F) (v.writes (Elt F) f [⟨Rect.whole s, p⟩]) y = p y :=
  writes_apply v f p _ (fun p' hp x => by
      obtain rfl := List.mem_singleton.1 hp
      exact congrArg p (Rect.emb_whole_apply s x).symm) y
    (.inl ⟨_, List.mem_singleton.2 rfl, by rw [Rect.set_whole]; exact Finset.mem_univ y⟩)

/-- A whole buffer reads as its contents. -/
theorem read_at (b : Ref sig .scVector) (f : b.ty.Contents (Elt F)) (y : b.ty.shape.Idx) :
    (Memref.whole b).view.read (Elt F) f y = f y := rfl

/-- Lane `x` of a sixteen-wide vector cast to one row. -/
theorem row_apply {α : Type} (w : S16.Idx → α) (x : S1x16.Idx) :
    shapeCast S1x16 w shapeCasts_S16_S1x16 x = w (ValueIdx.ix1 (x 1)) := by
  rw [ValueIdx.eq_ix2 x]; exact ValueIdx.shapeCast_a_1a_apply w shapeCasts_S16_S1x16 (x 0) (x 1)

/-- The sixteen coordinates a trip loads. -/
theorem load_apply (f : S896.Idx → F .f32) (k : Fin k0_t2_loop.trips) (j : S16.Idx)
    (inb : ∀ a, k0_off2 k a + S16.size a ≤ S896.size a) :
    f ((Rect.unit (s := S896) (k0_off2 k) S16.size inb).emb j) = nth f (16 * k.val + (j 0).val) := by
  have h : (((Rect.unit (s := S896) (k0_off2 k) S16.size inb).emb j) 0).val = 16 * k.val + (j 0).val := by
    show k0_off2 k 0 + 1 * (j 0).val = _
    rw [k0_off2_eq]; show 16 * k.val + 1 * (j 0).val = _; omega
  rw [← h, nth_val]

/-- The inner loop's invariant: the coordinates read, the two buffers filled up to the trip. -/
def inv2 (fx fy : S896.Idx → F .f32) (k : Nat) (_ : PUnit) : sProp 𝕄 :=
  iprop(((bxV).view.loc (tile d L) ↦{fullShare} fx) ∗ ((byV).view.loc (tile d L) ↦{fullShare} fy)
    ∗ (∃ f, ⌜HasI fx fy (16 * k) f⌝ ∗ (biV).view.loc (tile d L) ↦{fullShare} f)
    ∗ (∃ f, ⌜HasW fx fy (16 * k) f⌝ ∗ (bwV).view.loc (tile d L) ↦{fullShare} f))

theorem mem_row {n : Nat} (off : Fin 2 → Nat) (r c : Nat) (ho : off = ![r, c]) (inb : ∀ a, off a + S1x16.size a ≤ (⟨2, ![n, 896]⟩ : Shape).size a)
    (y : (⟨2, ![n, 896]⟩ : Shape).Idx) (h0 : (y 0).val = r) (h1 : c ≤ (y 1).val) (h2 : (y 1).val < c + 16) :
    y ∈ (Rect.unit (s := ⟨2, ![n, 896]⟩) off S1x16.size inb).set := by
  subst ho
  rw [Rect.mem_set_unit]
  intro a
  match a with
  | ⟨0, _⟩ => exact ⟨h0.ge, by show (y 0).val < r + 1; omega⟩
  | ⟨1, _⟩ => exact ⟨h1, h2⟩

/-- The row-and-columns part of where a trip's row lies. -/
theorem row_emb {n : Nat} (off : Fin 2 → Nat) (r c : Nat) (ho : off = ![r, c])
    (inb : ∀ a, off a + S1x16.size a ≤ (⟨2, ![n, 896]⟩ : Shape).size a) (x : S1x16.Idx) :
    (((Rect.unit (s := ⟨2, ![n, 896]⟩) off S1x16.size inb).emb x) 0).val = r
      ∧ (((Rect.unit (s := ⟨2, ![n, 896]⟩) off S1x16.size inb).emb x) 1).val = c + (x 1).val := by
  subst ho
  have h0 : (x 0).val < 1 := (x 0).isLt
  constructor
  · show r + 1 * (x 0).val = r; omega
  · show c + 1 * (x 1).val = c + (x 1).val; omega

theorem pay19_apply (u v : Vec F S16 .f32) (j : S16.Idx) :
    k0_pay19 v (k0_pay10 u) (k0_pay12 v) (k0_pay13 v) j = lowIx (u j) (v j) := rfl
theorem pay20_apply (u v : Vec F S16 .f32) (j : S16.Idx) :
    k0_pay20 v (k0_pay11 u) (k0_pay12 v) (k0_pay13 v) j = highIx (u j) (v j) := rfl
theorem pay1_apply (u v : Vec F S16 .f32) (j : S16.Idx) :
    k0_pay1 (k0_pay8 u) (k0_pay17 v (k0_pay12 v) (k0_pay13 v)) j = tabW (u j) (v j) 0 := rfl
theorem pay2_apply (u v : Vec F S16 .f32) (j : S16.Idx) :
    k0_pay2 (k0_pay9 u) (k0_pay17 v (k0_pay12 v) (k0_pay13 v)) j = tabW (u j) (v j) 1 := rfl
theorem pay3_apply (u v : Vec F S16 .f32) (j : S16.Idx) :
    k0_pay3 (k0_pay8 u) (k0_pay18 v (k0_pay12 v) (k0_pay13 v)) j = tabW (u j) (v j) 2 := rfl
theorem pay4_apply (u v : Vec F S16 .f32) (j : S16.Idx) :
    k0_pay4 (k0_pay9 u) (k0_pay18 v (k0_pay12 v) (k0_pay13 v)) j = tabW (u j) (v j) 3 := rfl

/-- A trip's two stores extend the index buffer by sixteen columns. -/
theorem idx_step (fx fy : S896.Idx → F .f32) (k : Fin k0_t2_loop.trips) (f : S2x896.Idx → BitVec 32)
    (hf : HasI fx fy (16 * k.val) f) (u v : Vec F S16 .f32) (hu : ∀ j, u j = nth fx (16 * k.val + (j 0).val))
    (hv : ∀ j, v j = nth fy (16 * k.val + (j 0).val)) :
    HasI fx fy (16 * (k.val + 1)) ((biV).view.writes (Elt F) f
      [⟨Rect.unit (s := S2x896) (k0_off4 k) S1x16.size (k0_off4_inb k), shapeCast S1x16 (k0_pay20 v (k0_pay11 u) (k0_pay12 v) (k0_pay13 v)) shapeCasts_S16_S1x16⟩,
        ⟨Rect.unit (s := S2x896) (k0_off3 k) S1x16.size (k0_off3_inb k), shapeCast S1x16 (k0_pay19 v (k0_pay10 u) (k0_pay12 v) (k0_pay13 v)) shapeCasts_S16_S1x16⟩]) := by
  intro y hy
  refine (read_at (F := F) cc0_scratch6 _ y).symm.trans
    (writes_apply (F := F) (biV).view f (fun y => tabI (nth fx (y 1).val) (nth fy (y 1).val) (y 0).val) _ ?_ y ?_)
  · intro p hp x
    simp only [List.mem_cons, List.not_mem_nil, or_false] at hp
    rcases hp with rfl | rfl
    · obtain ⟨h0, h1⟩ := row_emb (n := 2) _ 1 (16 * k.val) (k0_off4_eq k) (k0_off4_inb k) x
      refine (row_apply _ x).trans ((pay20_apply u v _).trans ?_)
      rw [hu, hv, h0, h1]; rfl
    · obtain ⟨h0, h1⟩ := row_emb (n := 2) _ 0 (16 * k.val) (k0_off3_eq k) (k0_off3_inb k) x
      refine (row_apply _ x).trans ((pay19_apply u v _).trans ?_)
      rw [hu, hv, h0, h1]; rfl
  · by_cases hlt : (y 1).val < 16 * k.val
    · exact .inr (hf y hlt)
    · left
      have h0 : (y 0).val < 2 := (y 0).isLt
      rcases (show (y 0).val = 0 ∨ (y 0).val = 1 by omega) with h0 | h0
      · exact ⟨_, List.mem_cons_of_mem _ List.mem_cons_self, mem_row (n := 2) _ 0 (16 * k.val) (k0_off3_eq k) (k0_off3_inb k) y h0 (by omega) (by omega)⟩
      · exact ⟨_, List.mem_cons_self, mem_row (n := 2) _ 1 (16 * k.val) (k0_off4_eq k) (k0_off4_inb k) y h0 (by omega) (by omega)⟩

/-- A trip's four stores extend the weight buffer by sixteen columns. -/
theorem wgt_step (fx fy : S896.Idx → F .f32) (k : Fin k0_t2_loop.trips) (f : S4x896.Idx → F .f32)
    (hf : HasW fx fy (16 * k.val) f) (u v : Vec F S16 .f32) (hu : ∀ j, u j = nth fx (16 * k.val + (j 0).val))
    (hv : ∀ j, v j = nth fy (16 * k.val + (j 0).val)) :
    HasW fx fy (16 * (k.val + 1)) ((bwV).view.writes (Elt F) f
      [⟨Rect.unit (s := S4x896) (k0_off8 k) S1x16.size (k0_off8_inb k), shapeCast S1x16 (k0_pay4 (k0_pay9 u) (k0_pay18 v (k0_pay12 v) (k0_pay13 v))) shapeCasts_S16_S1x16⟩,
        ⟨Rect.unit (s := S4x896) (k0_off7 k) S1x16.size (k0_off7_inb k), shapeCast S1x16 (k0_pay3 (k0_pay8 u) (k0_pay18 v (k0_pay12 v) (k0_pay13 v))) shapeCasts_S16_S1x16⟩,
        ⟨Rect.unit (s := S4x896) (k0_off6 k) S1x16.size (k0_off6_inb k), shapeCast S1x16 (k0_pay2 (k0_pay9 u) (k0_pay17 v (k0_pay12 v) (k0_pay13 v))) shapeCasts_S16_S1x16⟩,
        ⟨Rect.unit (s := S4x896) (k0_off5 k) S1x16.size (k0_off5_inb k), shapeCast S1x16 (k0_pay1 (k0_pay8 u) (k0_pay17 v (k0_pay12 v) (k0_pay13 v))) shapeCasts_S16_S1x16⟩]) := by
  intro y hy
  refine (read_at (F := F) cc0_scratch7 _ y).symm.trans
    (writes_apply (F := F) (bwV).view f (fun y => tabW (nth fx (y 1).val) (nth fy (y 1).val) (y 0).val) _ ?_ y ?_)
  · intro p hp x
    simp only [List.mem_cons, List.not_mem_nil, or_false] at hp
    rcases hp with rfl | rfl | rfl | rfl
    · obtain ⟨h0, h1⟩ := row_emb (n := 4) _ 3 (16 * k.val) (k0_off8_eq k) (k0_off8_inb k) x
      refine (row_apply _ x).trans ((pay4_apply u v _).trans ?_)
      rw [hu, hv, h0, h1]
    · obtain ⟨h0, h1⟩ := row_emb (n := 4) _ 2 (16 * k.val) (k0_off7_eq k) (k0_off7_inb k) x
      refine (row_apply _ x).trans ((pay3_apply u v _).trans ?_)
      rw [hu, hv, h0, h1]
    · obtain ⟨h0, h1⟩ := row_emb (n := 4) _ 1 (16 * k.val) (k0_off6_eq k) (k0_off6_inb k) x
      refine (row_apply _ x).trans ((pay2_apply u v _).trans ?_)
      rw [hu, hv, h0, h1]
    · obtain ⟨h0, h1⟩ := row_emb (n := 4) _ 0 (16 * k.val) (k0_off5_eq k) (k0_off5_inb k) x
      refine (row_apply _ x).trans ((pay1_apply u v _).trans ?_)
      rw [hu, hv, h0, h1]
  · by_cases hlt : (y 1).val < 16 * k.val
    · exact .inr (hf y hlt)
    · left
      have h0 : (y 0).val < 4 := (y 0).isLt
      rcases (show (y 0).val = 0 ∨ (y 0).val = 1 ∨ (y 0).val = 2 ∨ (y 0).val = 3 by omega) with h0 | h0 | h0 | h0
      · exact ⟨_, List.mem_cons_of_mem _ (List.mem_cons_of_mem _ (List.mem_cons_of_mem _ List.mem_cons_self)),
          mem_row (n := 4) _ 0 (16 * k.val) (k0_off5_eq k) (k0_off5_inb k) y h0 (by omega) (by omega)⟩
      · exact ⟨_, List.mem_cons_of_mem _ (List.mem_cons_of_mem _ List.mem_cons_self),
          mem_row (n := 4) _ 1 (16 * k.val) (k0_off6_eq k) (k0_off6_inb k) y h0 (by omega) (by omega)⟩
      · exact ⟨_, List.mem_cons_of_mem _ List.mem_cons_self,
          mem_row (n := 4) _ 2 (16 * k.val) (k0_off7_eq k) (k0_off7_inb k) y h0 (by omega) (by omega)⟩
      · exact ⟨_, List.mem_cons_self, mem_row (n := 4) _ 3 (16 * k.val) (k0_off8_eq k) (k0_off8_inb k) y h0 (by omega) (by omega)⟩

theorem trip2 (fx fy : S896.Idx → F .f32) (k : Fin k0_t2_loop.trips) :
    inv2 d L fx fy k.val ⟨⟩ ⊢ wp frame (wpE (defs₀ (F := F)) 𝒱₀ (tile d L) none) Set.univ
      (k0_t2_body L xV (Memref.isWhole_whole _) gxV (Memref.isWhole_whole _) gyV (Memref.isWhole_whole _) oV (Memref.isWhole_whole _)
        plV (Memref.isWhole_whole _) ciV (Memref.isWhole_whole _) cwV (Memref.isWhole_whole _) obV (Memref.isWhole_whole _)
        bxV (Memref.isWhole_whole _) byV (Memref.isWhole_whole _) biV (Memref.isWhole_whole _) bwV (Memref.isWhole_whole _)
        shI (Memref.isWhole_whole _) shW (Memref.isWhole_whole _)
        cc0_scoped0 cc0_scoped1 cc0_scoped2 cc0_scoped3 cc0_scoped4 cc0_scoped5 cc0_scoped6 cc0_scoped7 k ⟨⟩)
      fun _ => inv2 d L fx fy (k.val + 1) ⟨⟩ := by
  delta inv2
  iintro ⟨Hx, Hy, ⟨%fi, %hi, Hi⟩, %fw, %hw, Hw⟩
  sl_unfold [k0_t2_body]
  sl_exec
  sl_step
  isplitl [Hx]; · iexact Hx
  isplitl [Hy]; · iexact Hy
  isplitl [Hi]
  · iexists _; isplitr
    · ipureintro
      exact idx_step fx fy k fi hi ((bxV).view.readAt (Elt F) (Rect.unit (s := S896) (k0_off2 k) S16.size (k0_off2_inb k)).toLoadRect fx)
        ((byV).view.readAt (Elt F) (Rect.unit (s := S896) (k0_off2 k) S16.size (k0_off2_inb k)).toLoadRect fy)
        (fun j => load_apply fx k j (k0_off2_inb k)) (fun j => load_apply fy k j (k0_off2_inb k))
    · iexact Hi
  iexists _; isplitr
  · ipureintro
    exact wgt_step fx fy k fw hw ((bxV).view.readAt (Elt F) (Rect.unit (s := S896) (k0_off2 k) S16.size (k0_off2_inb k)).toLoadRect fx)
        ((byV).view.readAt (Elt F) (Rect.unit (s := S896) (k0_off2 k) S16.size (k0_off2_inb k)).toLoadRect fy)
        (fun j => load_apply fx k j (k0_off2_inb k)) (fun j => load_apply fy k j (k0_off2_inb k))
  · iexact Hw

end Cert.KernelIdeal.Tile

end

end
-- ==== Proof.ITable.lean ====
module

public import proofs.«01_k».proof.Proof.IPhase1

/-!
# The first loop: a tile fills its block of the shared tables
-/

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Vals

variable {F : FTy → Type} [FloatOps F]

local notation "𝕄" => MT nD τ sig (HIx 1) (Elt F) ℕ UU ℕ

variable (d : Dev nD) (L : grid0.Coords)

/-- Tile `s`'s columns of a shared table. -/
def cols (n s : Nat) : Finset (⟨2, ![n, 100352]⟩ : Shape).Idx := Finset.univ.filter fun y => (y 1).val / 6272 = s

/-- SparseCore `c`'s table of corner places. -/
def tblI (gx gy : S200704.Idx → F .f32) (c : Nat) : S2x100352.Idx → BitVec 32 :=
  fun y => tabI (nth gx (c * 100352 + (y 1).val)) (nth gy (c * 100352 + (y 1).val)) (y 0).val
/-- SparseCore `c`'s table of corner weights. -/
def tblW (gx gy : S200704.Idx → F .f32) (c : Nat) : S4x100352.Idx → F .f32 :=
  fun y => tabW (nth gx (c * 100352 + (y 1).val)) (nth gy (c * 100352 + (y 1).val)) (y 0).val

/-- The part of the tables a trip fills. -/
abbrev partI (t : Fin k0_t1_loop.trips) : Memref sig .scVector .shared S2x896 .i32 :=
  (shI).slice (Rect.unit (s := S2x100352) (k0_off9 L t) S2x896.size (k0_off9_inb L t)) (fun _ => rfl)
abbrev partW (t : Fin k0_t1_loop.trips) : Memref sig .scVector .shared S4x896 .f32 :=
  (shW).slice (Rect.unit (s := S4x100352) (k0_off10 L t) S4x896.size (k0_off10_inb L t)) (fun _ => rfl)

/-- The places a trip fills: all the rows, at the trip's columns. -/
theorem mem_partI (t : Fin k0_t1_loop.trips) (y : S2x100352.Idx) :
    y ∈ (partI L t).view.set ↔ (L 1).val * 6272 + 896 * t.val ≤ (y 1).val ∧ (y 1).val < (L 1).val * 6272 + 896 * t.val + 896 := by
  show y ∈ ((View.whole cc0_scratch8).slice (Rect.unit (s := S2x100352) (k0_off9 L t) S2x896.size (k0_off9_inb L t))).set ↔ _
  rw [View.set_slice_whole, Rect.mem_set_unit]
  have e0 : k0_off9 L t 0 = 0 := by rw [off9_eq]; rfl
  have e1 : k0_off9 L t 1 = (L 1).val * 6272 + 896 * t.val := by rw [off9_eq]; rfl
  have h0 : (y 0).val < 2 := (y 0).isLt
  constructor
  · intro h
    have := h 1
    rw [e1] at this; exact this
  · rintro ⟨h1, h2⟩ a
    match a with
    | ⟨0, _⟩ => exact ⟨by show k0_off9 L t 0 ≤ (y 0).val; omega, by show (y 0).val < k0_off9 L t 0 + 2; omega⟩
    | ⟨1, _⟩ => exact ⟨by show k0_off9 L t 1 ≤ (y 1).val; omega, by show (y 1).val < k0_off9 L t 1 + 896; omega⟩
theorem mem_partW (t : Fin k0_t1_loop.trips) (y : S4x100352.Idx) :
    y ∈ (partW L t).view.set ↔ (L 1).val * 6272 + 896 * t.val ≤ (y 1).val ∧ (y 1).val < (L 1).val * 6272 + 896 * t.val + 896 := by
  show y ∈ ((View.whole cc0_scratch9).slice (Rect.unit (s := S4x100352) (k0_off10 L t) S4x896.size (k0_off10_inb L t))).set ↔ _
  rw [View.set_slice_whole, Rect.mem_set_unit]
  have e0 : k0_off10 L t 0 = 0 := by rw [off10_eq]; rfl
  have e1 : k0_off10 L t 1 = (L 1).val * 6272 + 896 * t.val := by rw [off10_eq]; rfl
  have h0 : (y 0).val < 4 := (y 0).isLt
  constructor
  · intro h
    have := h 1
    rw [e1] at this; exact this
  · rintro ⟨h1, h2⟩ a
    match a with
    | ⟨0, _⟩ => exact ⟨by show k0_off10 L t 0 ≤ (y 0).val; omega, by show (y 0).val < k0_off10 L t 0 + 4; omega⟩
    | ⟨1, _⟩ => exact ⟨by show k0_off10 L t 1 ≤ (y 1).val; omega, by show (y 1).val < k0_off10 L t 1 + 896; omega⟩

theorem next_col (a t : Nat) : a + 896 * (t + 1) = a + 896 * t + 896 := by omega
theorem trips1 : k0_t1_loop.trips = 7 := by decide
theorem trips2 : k0_t2_loop.trips = 56 := by decide

theorem partI_cols (t : Fin k0_t1_loop.trips) : (partI L t).view.set ⊆ cols 2 (L 1).val := by
  intro y hy
  have h := (mem_partI L t y).1 hy
  have ht : t.val < 7 := lt_of_lt_of_eq t.isLt trips1
  exact Finset.mem_filter.2 ⟨Finset.mem_univ _, by omega⟩
theorem partW_cols (t : Fin k0_t1_loop.trips) : (partW L t).view.set ⊆ cols 4 (L 1).val := by
  intro y hy
  have h := (mem_partW L t y).1 hy
  have ht : t.val < 7 := lt_of_lt_of_eq t.isLt trips1
  exact Finset.mem_filter.2 ⟨Finset.mem_univ _, by omega⟩

/-- The coordinates a trip copies in. -/
def coords (g : S200704.Idx → F .f32) (t : Fin k0_t1_loop.trips) : S896.Idx → F .f32 :=
  fun y => nth g ((L 0).val * 100352 + ((L 1).val * 6272 + 896 * t.val + (y 0).val))

theorem coords_read (b : Memref sig .scVector .hbm S200704 .f32) (g : S200704.Idx → F .f32) (t : Fin k0_t1_loop.trips) (y : S896.Idx) :
    g ((Rect.unit (s := S200704) (k0_off1 L t) S896.size (k0_off1_inb L t)).emb y) = coords L g t y := by
  have h : (((Rect.unit (s := S200704) (k0_off1 L t) S896.size (k0_off1_inb L t)).emb y) 0).val
      = (L 0).val * 100352 + ((L 1).val * 6272 + 896 * t.val + (y 0).val) := by
    show k0_off1 L t 0 + 1 * (y 0).val = _
    rw [off1_eq]; show (L 0).val * 100352 + (L 1).val * 6272 + 896 * t.val + 1 * (y 0).val = _; omega
  unfold coords; rw [← h, nth_val]

theorem fill_x (t : Fin k0_t1_loop.trips) (g : S200704.Idx → F .f32) (f : S896.Idx → F .f32) :
    View.write (Elt F) (bxV).view f (View.read (Elt F) ((gxV).slice (Rect.unit (s := S200704) (k0_off1 L t) S896.size (k0_off1_inb L t)) (fun _ => rfl)).view g) Finset.univ
      = coords L g t :=
  (View.write_whole_univ (Val := Elt F) cc0_scratch4 f _).trans (funext fun y => coords_read L gxV g t y)
theorem fill_y (t : Fin k0_t1_loop.trips) (g : S200704.Idx → F .f32) (f : S896.Idx → F .f32) :
    View.write (Elt F) (byV).view f (View.read (Elt F) ((gyV).slice (Rect.unit (s := S200704) (k0_off1 L t) S896.size (k0_off1_inb L t)) (fun _ => rfl)).view g) Finset.univ
      = coords L g t :=
  (View.write_whole_univ (Val := Elt F) cc0_scratch5 f _).trans (funext fun y => coords_read L gyV g t y)

theorem nth_coords (g : S200704.Idx → F .f32) (t : Fin k0_t1_loop.trips) {k : Nat} (h : k < 896) :
    nth (coords L g t) k = nth g ((L 0).val * 100352 + ((L 1).val * 6272 + 896 * t.val + k)) := by
  rw [nth_of_lt _ h]; rfl

/-- The block with the trip's part written holds the table's columns up to the next trip's first. -/
theorem tblI_step (gx gy : S200704.Idx → F .f32) (t : Fin k0_t1_loop.trips) (f : S2x100352.Idx → BitVec 32) (p : S2x896.Idx → BitVec 32)
    (hf : ∀ y ∈ cols 2 (L 1).val, (y 1).val < (L 1).val * 6272 + 896 * t.val → f y = tblI gx gy (L 0).val y)
    (g : S2x100352.Idx → BitVec 32) (hg : ∀ x, (partI L t).view.read (Elt F) g x = p x)
    (hp : HasI (coords L gx t) (coords L gy t) 896 p) :
    ∀ y ∈ cols 2 (L 1).val, (y 1).val < (L 1).val * 6272 + 896 * (t.val + 1) →
      (partI L t).view.set.piecewise g f y = tblI gx gy (L 0).val y := by
  intro y hy hlt
  by_cases hm : y ∈ (partI L t).view.set
  · rw [Finset.piecewise_eq_of_mem _ _ _ hm]
    obtain ⟨x, -, rfl⟩ := Finset.mem_map.1 hm
    have h0 : ((partI L t).view.emb x 0).val = (x 0).val := by
      show k0_off9 L t 0 + 1 * (x 0).val = _
      rw [off9_eq]; show 0 + 1 * (x 0).val = _; omega
    have h1 : ((partI L t).view.emb x 1).val = (L 1).val * 6272 + 896 * t.val + (x 1).val := by
      show k0_off9 L t 1 + 1 * (x 1).val = _
      rw [off9_eq]; show (L 1).val * 6272 + 896 * t.val + 1 * (x 1).val = _; omega
    have hx : (x 1).val < 896 := (x 1).isLt
    refine (show g ((partI L t).view.emb x) = p x from hg x).trans ((hp x hx).trans ?_)
    unfold tblI; rw [h0, h1, nth_coords L gx t hx, nth_coords L gy t hx]
  · rw [Finset.piecewise_eq_of_notMem _ _ _ hm]
    exact hf y hy (Nat.lt_of_not_le fun hge => hm ((mem_partI L t y).2 ⟨hge, hlt.trans_eq (next_col _ _)⟩))
theorem tblW_step (gx gy : S200704.Idx → F .f32) (t : Fin k0_t1_loop.trips) (f : S4x100352.Idx → F .f32) (p : S4x896.Idx → F .f32)
    (hf : ∀ y ∈ cols 4 (L 1).val, (y 1).val < (L 1).val * 6272 + 896 * t.val → f y = tblW gx gy (L 0).val y)
    (g : S4x100352.Idx → F .f32) (hg : ∀ x, (partW L t).view.read (Elt F) g x = p x)
    (hp : HasW (coords L gx t) (coords L gy t) 896 p) :
    ∀ y ∈ cols 4 (L 1).val, (y 1).val < (L 1).val * 6272 + 896 * (t.val + 1) →
      (partW L t).view.set.piecewise g f y = tblW gx gy (L 0).val y := by
  intro y hy hlt
  by_cases hm : y ∈ (partW L t).view.set
  · rw [Finset.piecewise_eq_of_mem _ _ _ hm]
    obtain ⟨x, -, rfl⟩ := Finset.mem_map.1 hm
    have h0 : ((partW L t).view.emb x 0).val = (x 0).val := by
      show k0_off10 L t 0 + 1 * (x 0).val = _
      rw [off10_eq]; show 0 + 1 * (x 0).val = _; omega
    have h1 : ((partW L t).view.emb x 1).val = (L 1).val * 6272 + 896 * t.val + (x 1).val := by
      show k0_off10 L t 1 + 1 * (x 1).val = _
      rw [off10_eq]; show (L 1).val * 6272 + 896 * t.val + 1 * (x 1).val = _; omega
    have hx : (x 1).val < 896 := (x 1).isLt
    refine (show g ((partW L t).view.emb x) = p x from hg x).trans ((hp x hx).trans ?_)
    unfold tblW; rw [h0, h1, nth_coords L gx t hx, nth_coords L gy t hx]
  · rw [Finset.piecewise_eq_of_notMem _ _ _ hm]
    exact hf y hy (Nat.lt_of_not_le fun hge => hm ((mem_partW L t y).2 ⟨hge, hlt.trans_eq (next_col _ _)⟩))

/-- The outer loop's invariant: the block's columns below the trip's first hold the tables'. -/
def inv1 (gx gy : S200704.Idx → F .f32) (q : PosShare TreeShare) (O : CellTallies nD τ sig (HIx 1)) (W : Waits sig (HIx 1)) (t : Nat) (_ : PUnit) : sProp 𝕄 :=
  iprop(Transfers.MayWaits (tile d L) (none : HIx 1) O
    ∗ ((gxV).view.loc (tile d L) ↦{q} gx) ∗ ((gyV).view.loc (tile d L) ↦{q} gy)
    ∗ (∃ f, (bxV).view.loc (tile d L) ↦{fullShare} f) ∗ (∃ f, (byV).view.loc (tile d L) ↦{fullShare} f)
    ∗ (∃ f, (biV).view.loc (tile d L) ↦{fullShare} f) ∗ (∃ f, (bwV).view.loc (tile d L) ↦{fullShare} f)
    ∗ (∃ f, ⌜∀ y ∈ cols 2 (L 1).val, (y 1).val < (L 1).val * 6272 + 896 * t → f y = tblI gx gy (L 0).val y⌝
        ∗ (shI).view.loc (tile d L) ↦[cols 2 (L 1).val]{fullShare} f)
    ∗ (∃ f, ⌜∀ y ∈ cols 4 (L 1).val, (y 1).val < (L 1).val * 6272 + 896 * t → f y = tblW gx gy (L 0).val y⌝
        ∗ (shW).view.loc (tile d L) ↦[cols 4 (L 1).val]{fullShare} f)
    ∗ semVal (tile d L, SemLoc.dma cc0_scoped0.sem) 0 ∗ semVal (tile d L, SemLoc.dma cc0_scoped1.sem) 0
    ∗ semVal (tile d L, SemLoc.dma cc0_scoped2.sem) 0 ∗ semVal (tile d L, SemLoc.dma cc0_scoped3.sem) 0
    ∗ ∃ W', ⌜∀ p ∈ W', p ∈ W ∨ p.2 = none⌝ ∗ owes (tile d L) O W')

/-- The trip's part taken out of the block. -/
theorem takeI (t : Fin k0_t1_loop.trips) (f : S2x100352.Idx → BitVec 32) :
    ((shI).view.loc (tile d L) ↦[cols 2 (L 1).val]{fullShare} f : sProp 𝕄)
      ⊣⊢ iprop(((partI L t).view.loc (tile d L) ↦[(partI L t).view.set]{fullShare} f)
        ∗ (shI).view.loc (tile d L) ↦[cols 2 (L 1).val \ (partI L t).view.set]{fullShare} f) :=
  pointsTo_split_subset (partI_cols L t)
theorem takeW (t : Fin k0_t1_loop.trips) (f : S4x100352.Idx → F .f32) :
    ((shW).view.loc (tile d L) ↦[cols 4 (L 1).val]{fullShare} f : sProp 𝕄)
      ⊣⊢ iprop(((partW L t).view.loc (tile d L) ↦[(partW L t).view.set]{fullShare} f)
        ∗ (shW).view.loc (tile d L) ↦[cols 4 (L 1).val \ (partW L t).view.set]{fullShare} f) :=
  pointsTo_split_subset (partW_cols L t)

/-- The trip's part put back. -/
theorem putI (t : Fin k0_t1_loop.trips) (f g : S2x100352.Idx → BitVec 32) :
    iprop(((partI L t).view.loc (tile d L) ↦[(partI L t).view.set]{fullShare} g)
        ∗ (shI).view.loc (tile d L) ↦[cols 2 (L 1).val \ (partI L t).view.set]{fullShare} f)
      ⊢ ((shI).view.loc (tile d L) ↦[cols 2 (L 1).val]{fullShare} (partI L t).view.set.piecewise g f : sProp 𝕄) :=
  pointsTo_join_subset (partI_cols L t)
theorem putW (t : Fin k0_t1_loop.trips) (f g : S4x100352.Idx → F .f32) :
    iprop(((partW L t).view.loc (tile d L) ↦[(partW L t).view.set]{fullShare} g)
        ∗ (shW).view.loc (tile d L) ↦[cols 4 (L 1).val \ (partW L t).view.set]{fullShare} f)
      ⊢ ((shW).view.loc (tile d L) ↦[cols 4 (L 1).val]{fullShare} (partW L t).view.set.piecewise g f : sProp 𝕄) :=
  pointsTo_join_subset (partW_cols L t)

theorem trip1 (gx gy : S200704.Idx → F .f32) (q : PosShare TreeShare) (O : CellTallies nD τ sig (HIx 1)) (W : Waits sig (HIx 1)) (t : Fin k0_t1_loop.trips) :
    inv1 d L gx gy q O W t.val ⟨⟩ ⊢ wp frame (wpE (defs₀ (F := F)) 𝒱₀ (tile d L) none) Set.univ
      (k0_t1_body L xV (Memref.isWhole_whole _) gxV (Memref.isWhole_whole _) gyV (Memref.isWhole_whole _) oV (Memref.isWhole_whole _)
        plV (Memref.isWhole_whole _) ciV (Memref.isWhole_whole _) cwV (Memref.isWhole_whole _) obV (Memref.isWhole_whole _)
        bxV (Memref.isWhole_whole _) byV (Memref.isWhole_whole _) biV (Memref.isWhole_whole _) bwV (Memref.isWhole_whole _)
        shI (Memref.isWhole_whole _) shW (Memref.isWhole_whole _)
        cc0_scoped0 cc0_scoped1 cc0_scoped2 cc0_scoped3 cc0_scoped4 cc0_scoped5 cc0_scoped6 cc0_scoped7 t ⟨⟩)
      fun _ => inv1 d L gx gy q O W (t.val + 1) ⟨⟩ := by
  delta inv1
  iintro ⟨Hmw, Hgx, Hgy, ⟨%fx, Hx⟩, ⟨%fy, Hy⟩, ⟨%fi, Hi⟩, ⟨%fw, Hw⟩, ⟨%si, %hsi, Hsi⟩, ⟨%sw, %hsw, Hsw⟩, Hs0, Hs1, Hs2, Hs3, %W', %hW', HO⟩
  ihave Hsi' := (takeI d L t si).1 $$ Hsi
  icases Hsi' with ⟨Hsi, HrI⟩
  ihave Hsw' := (takeW d L t sw).1 $$ Hsw
  icases Hsw' with ⟨Hsw, HrW⟩
  sl_unfold [k0_t1_body]
  sl_exec (disch := exact View.amount_pos _ _ (show 0 < S896.numel by decide))
  sl_for (inv2 d L (coords L gx t) (coords L gy t)) $$ [Hx Hy Hi Hw]
  case region => exact fun k _ => trip2 d L _ _ k
  · delta inv2
    isplitl [Hx]; · iapply (Entails.of_eq (congrArg (fun f => ((bxV).view.loc (tile d L) ↦{fullShare} f : sProp 𝕄)) (fill_x L t gx fx))); iexact Hx
    isplitl [Hy]; · iapply (Entails.of_eq (congrArg (fun f => ((byV).view.loc (tile d L) ↦{fullShare} f : sProp 𝕄)) (fill_y L t gy fy))); iexact Hy
    isplitl [Hi]
    · iexists fi; isplitr; · ipureintro; exact fun y h => absurd h (by omega)
      iexact Hi
    iexists fw; isplitr; · ipureintro; exact fun y h => absurd h (by omega)
    iexact Hw
  iintro %_ HI
  delta inv2
  icases HI with ⟨Hx, Hy, ⟨%fi', %hi', Hi⟩, %fw', %hw', Hw⟩
  sl_exec (disch := first | exact View.amount_pos _ _ (show 0 < S2x896.numel by decide) | exact View.amount_pos _ _ (show 0 < S4x896.numel by decide))
  sl_step
  isplitl [Hmw]; · iexact Hmw
  isplitl [Hgx]; · iexact Hgx
  isplitl [Hgy]; · iexact Hgy
  isplitl [Hx]; · iexists _; iexact Hx
  isplitl [Hy]; · iexists _; iexact Hy
  isplitl [Hi]; · iexists _; iexact Hi
  isplitl [Hw]; · iexists _; iexact Hw
  isplitl [Hsi HrI]
  · iexists _; isplitr; swap
    · iapply (putI d L t _ _); isplitl [Hsi]; · iexact Hsi
      iexact HrI
    ipureintro
    exact tblI_step L gx gy t si fi' hsi _ (fun x => writes_whole (partI L t).view si _ x) hi'
  isplitl [Hsw HrW]
  · iexists _; isplitr; swap
    · iapply (putW d L t _ _); isplitl [Hsw]; · iexact Hsw
      iexact HrW
    ipureintro
    exact tblW_step L gx gy t sw fw' hsw _ (fun x => writes_whole (partW L t).view sw _ x) hw'
  isplitl [Hs0]; · iexact Hs0
  isplitl [Hs1]; · iexact Hs1
  isplitl [Hs2]; · iexact Hs2
  isplitl [Hs3]; · iexact Hs3
  iexists _; isplitr; swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Cert.KernelIdeal.Tile

end

end
-- ==== Proof.IPixel.lean ====
module

public import proofs.«01_k».proof.Proof.IPhase1

/-!
# The innermost loop: sixteen places of the result
-/

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Vals

variable {F : FTy → Type} [FloatOps F]

local notation "𝕄" => MT nD τ sig (HIx 1) (Elt F) ℕ UU ℕ

variable (d : Dev nD) (L : grid0.Coords)

/-- A chunk's corner places, of the coordinates `u`, `v` along it. -/
def chunkI (u v : Nat → F .f32) : S2x3584.Idx → BitVec 32 := fun y => tabI (u (y 1).val) (v (y 1).val) (y 0).val
/-- A chunk's corner weights. -/
def chunkW (u v : Nat → F .f32) : S4x3584.Idx → F .f32 := fun y => tabW (u (y 1).val) (v (y 1).val) (y 0).val
/-- The plane `p` sampled at the coordinates `a`, `b`. -/
def sample (p : S50176.Idx → F .f32) (a b : F .f32) : F .f32 := blend (nth p) (lowIx a b) (highIx a b) (tabW a b)

/-- The result buffer's places below `n` hold the plane's samples. -/
def HasO (p : S50176.Idx → F .f32) (u v : Nat → F .f32) (n : Nat) (f : S3584.Idx → F .f32) : Prop :=
  ∀ y : S3584.Idx, (y 0).val < n → f y = sample p (u (y 0).val) (v (y 0).val)

def inv5 (p : S50176.Idx → F .f32) (u v : Nat → F .f32) (k : Nat) (_ : PUnit) : sProp 𝕄 :=
  iprop(((plV).view.loc (tile d L) ↦{fullShare} p) ∗ ((ciV).view.loc (tile d L) ↦{fullShare} chunkI u v)
    ∗ ((cwV).view.loc (tile d L) ↦{fullShare} chunkW u v)
    ∗ (∃ f, ⌜HasO p u v (16 * k) f⌝ ∗ (obV).view.loc (tile d L) ↦{fullShare} f))

/-- The corner places a trip reads: the low corners, the high ones. -/
def lowV (u v : Nat → F .f32) (k : Nat) : IVec S16 32 := fun j => lowIx (u (16 * k + (j 0).val)) (v (16 * k + (j 0).val))
def highV (u v : Nat → F .f32) (k : Nat) : IVec S16 32 := fun j => highIx (u (16 * k + (j 0).val)) (v (16 * k + (j 0).val))
/-- Row `r` of the weights a trip reads. -/
def wgtV (u v : Nat → F .f32) (k r : Nat) : Vec F S1x16 .f32 := fun j => tabW (u (16 * k + (j 1).val)) (v (16 * k + (j 1).val)) r

theorem emb_row {n m : Nat} (off : Fin 2 → Nat) (r c : Nat) (ho : off = ![r, c])
    (inb : ∀ a, off a + S1x16.size a ≤ (⟨2, ![n, m]⟩ : Shape).size a) (x : S1x16.Idx) :
    (((Rect.unit (s := ⟨2, ![n, m]⟩) off S1x16.size inb).emb x) 0).val = r
      ∧ (((Rect.unit (s := ⟨2, ![n, m]⟩) off S1x16.size inb).emb x) 1).val = c + (x 1).val := by
  subst ho
  have h0 : (x 0).val < 1 := (x 0).isLt
  constructor
  · show r + 1 * (x 0).val = r; omega
  · show c + 1 * (x 1).val = c + (x 1).val; omega

theorem low_read (u v : Nat → F .f32) (k : Fin k0_t5_loop.trips) (h : S16.numel = S1x16.numel) :
    shapeCast S16 (((ciV).view.readAt (Elt F) (Rect.unit (s := S2x3584) (k0_off14 k) S1x16.size (k0_off14_inb k)).toLoadRect (chunkI u v) : Vec F S1x16 .i32)) h
      = lowV u v k.val := by
  funext j
  rw [ValueIdx.eq_ix1 j]
  refine (ValueIdx.shapeCast_1a_a_apply _ h (j 0)).trans ?_
  show chunkI u v ((Rect.unit (s := S2x3584) (k0_off14 k) S1x16.size (k0_off14_inb k)).emb (ValueIdx.ix2 0 (j 0))) = _
  obtain ⟨h0, h1⟩ := emb_row (n := 2) (m := 3584) _ 0 (16 * k.val) (k0_off14_eq k) (k0_off14_inb k) (ValueIdx.ix2 0 (j 0))
  unfold chunkI; rw [h0, h1]; rfl
theorem high_read (u v : Nat → F .f32) (k : Fin k0_t5_loop.trips) (h : S16.numel = S1x16.numel) :
    shapeCast S16 (((ciV).view.readAt (Elt F) (Rect.unit (s := S2x3584) (k0_off15 k) S1x16.size (k0_off15_inb k)).toLoadRect (chunkI u v) : Vec F S1x16 .i32)) h
      = highV u v k.val := by
  funext j
  rw [ValueIdx.eq_ix1 j]
  refine (ValueIdx.shapeCast_1a_a_apply _ h (j 0)).trans ?_
  show chunkI u v ((Rect.unit (s := S2x3584) (k0_off15 k) S1x16.size (k0_off15_inb k)).emb (ValueIdx.ix2 0 (j 0))) = _
  obtain ⟨h0, h1⟩ := emb_row (n := 2) (m := 3584) _ 1 (16 * k.val) (k0_off15_eq k) (k0_off15_inb k) (ValueIdx.ix2 0 (j 0))
  unfold chunkI; rw [h0, h1]; rfl
theorem wgt_read (u v : Nat → F .f32) (k : Fin k0_t5_loop.trips) (off : Fin 2 → Nat) (r : Nat) (ho : off = ![r, 16 * k.val])
    (inb : ∀ a, off a + S1x16.size a ≤ S4x3584.size a) :
    ((cwV).view.readAt (Elt F) (Rect.unit (s := S4x3584) off S1x16.size inb).toLoadRect (chunkW u v) : Vec F S1x16 .f32) = wgtV u v k.val r := by
  funext j
  show chunkW u v ((Rect.unit (s := S4x3584) off S1x16.size inb).emb j) = _
  obtain ⟨h0, h1⟩ := emb_row (n := 4) (m := 3584) off r (16 * k.val) ho inb j
  unfold chunkW; rw [h0, h1]; rfl

variable {u v : Nat → F .f32}
theorem chk_low (k : Nat) : k0_chk1 (lowV u v k) := fun a x => by
  match a with | ⟨0, _⟩ => exact lowIx_lt _ _
theorem chk_high (k : Nat) : k0_chk4 (highV u v k) := fun a x => by
  match a with | ⟨0, _⟩ => exact highIx_lt _ _
theorem chk_low_dx (hu : ∀ k, Fit (u k)) (k : Nat) : k0_chk2 (addi (lowV u v k) (k0_pay21 (F := F) (lowV u v k) (highV u v k))) := fun a x => by
  match a with | ⟨0, _⟩ => exact low_dx_lt _ (hu _)
theorem chk_high_dx (hu : ∀ k, Fit (u k)) (k : Nat) : k0_chk3 (subi (highV u v k) (k0_pay21 (F := F) (lowV u v k) (highV u v k))) := fun a x => by
  match a with | ⟨0, _⟩ => exact high_dx_lt _ (hu _)

/-- A gather from the plane. -/
theorem gather_apply (p : S50176.Idx → F .f32) (iv : IVec S16 32) (h : ∀ a x, ((![iv] : Fin 1 → IVec S16 32) a x).toNat < S50176.size a) (x : S16.Idx) :
    loadIdx (F := F) (e := .f32) (s := S50176) p ![iv] h x = nth p (iv x).toNat := by
  rw [nth_of_lt p (show (iv x).toNat < 50176 from h 0 x)]
  show p _ = p _
  congr 1; funext a
  match a with | ⟨0, _⟩ => rfl

/-- What a trip stores. -/
theorem sample_apply (p : S50176.Idx → F .f32) (k : Nat) (h1) (h2) (h3) (h4) (x : S16.Idx) :
    k0_pay22 (loadIdx (F := F) (e := .f32) (s := S50176) p ![lowV u v k] h1) (loadIdx (F := F) (e := .f32) (s := S50176) p ![addi (lowV u v k) (k0_pay21 (F := F) (lowV u v k) (highV u v k))] h2)
        (loadIdx (F := F) (e := .f32) (s := S50176) p ![subi (highV u v k) (k0_pay21 (F := F) (lowV u v k) (highV u v k))] h3) (loadIdx (F := F) (e := .f32) (s := S50176) p ![highV u v k] h4)
        (wgtV u v k 0) (wgtV u v k 1) (wgtV u v k 2) (wgtV u v k 3) x
      = sample p (u (16 * k + (x 0).val)) (v (16 * k + (x 0).val)) := by
  have hw : ∀ r, shapeCast S16 (wgtV u v k r) shapeCasts_S1x16_S16 x = tabW (u (16 * k + (x 0).val)) (v (16 * k + (x 0).val)) r := fun r => by
    conv_lhs => rw [ValueIdx.eq_ix1 x]
    exact ValueIdx.shapeCast_1a_a_apply _ _ (x 0)
  show FloatOps.addf (FloatOps.addf (FloatOps.addf (FloatOps.mulf (loadIdx (F := F) (e := .f32) (s := S50176) p _ h1 x) (shapeCast S16 (wgtV u v k 0) shapeCasts_S1x16_S16 x))
    (FloatOps.mulf (loadIdx (F := F) (e := .f32) (s := S50176) p _ h2 x) (shapeCast S16 (wgtV u v k 1) shapeCasts_S1x16_S16 x)))
    (FloatOps.mulf (loadIdx (F := F) (e := .f32) (s := S50176) p _ h3 x) (shapeCast S16 (wgtV u v k 2) shapeCasts_S1x16_S16 x)))
    (FloatOps.mulf (loadIdx (F := F) (e := .f32) (s := S50176) p _ h4 x) (shapeCast S16 (wgtV u v k 3) shapeCasts_S1x16_S16 x)) = _
  rw [gather_apply, gather_apply, gather_apply, gather_apply, hw, hw, hw, hw]; rfl

/-- The plane's buffer, as a gather reads it. -/
theorem plane_read (p : S50176.Idx → F .f32) : View.read (Elt F) ((plV).access (.whole S50176)) p = p :=
  funext fun x => congrArg p (Rect.emb_whole_apply S50176 x)

/-- The same, of the buffers the trip reads. -/
theorem stored_apply (p : S50176.Idx → F .f32) (k : Fin k0_t5_loop.trips) (h1) (h2) (h3) (h4) (x : S16.Idx) :
    k0_pay22 (loadIdx (F := F) (e := .f32) (s := S50176) (View.read (Elt F) ((plV).access (.whole S50176)) p) ![lowV u v k.val] h1)
        (loadIdx (F := F) (e := .f32) (s := S50176) (View.read (Elt F) ((plV).access (.whole S50176)) p) ![addi (lowV u v k.val) (k0_pay21 (F := F) (lowV u v k.val) (highV u v k.val))] h2)
        (loadIdx (F := F) (e := .f32) (s := S50176) (View.read (Elt F) ((plV).access (.whole S50176)) p) ![subi (highV u v k.val) (k0_pay21 (F := F) (lowV u v k.val) (highV u v k.val))] h3)
        (loadIdx (F := F) (e := .f32) (s := S50176) (View.read (Elt F) ((plV).access (.whole S50176)) p) ![highV u v k.val] h4)
        ((cwV).view.readAt (Elt F) (Rect.unit (s := S4x3584) (k0_off16 k) S1x16.size (k0_off16_inb k)).toLoadRect (chunkW u v))
        ((cwV).view.readAt (Elt F) (Rect.unit (s := S4x3584) (k0_off17 k) S1x16.size (k0_off17_inb k)).toLoadRect (chunkW u v))
        ((cwV).view.readAt (Elt F) (Rect.unit (s := S4x3584) (k0_off18 k) S1x16.size (k0_off18_inb k)).toLoadRect (chunkW u v))
        ((cwV).view.readAt (Elt F) (Rect.unit (s := S4x3584) (k0_off19 k) S1x16.size (k0_off19_inb k)).toLoadRect (chunkW u v)) x
      = sample p (u (16 * k.val + (x 0).val)) (v (16 * k.val + (x 0).val)) := by
  rw [wgt_read u v k _ 0 (k0_off16_eq k), wgt_read u v k _ 1 (k0_off17_eq k), wgt_read u v k _ 2 (k0_off18_eq k), wgt_read u v k _ 3 (k0_off19_eq k)]
  simp only [plane_read]
  exact sample_apply p k.val h1 h2 h3 h4 x

/-- A trip's store extends the result buffer by sixteen places. -/
theorem out_step (p : S50176.Idx → F .f32) (k : Fin k0_t5_loop.trips) (f : S3584.Idx → F .f32) (hf : HasO p u v (16 * k.val) f)
    (w : S16.Idx → F .f32) (hw : ∀ x : S16.Idx, w x = sample p (u (16 * k.val + (x 0).val)) (v (16 * k.val + (x 0).val))) :
    HasO p u v (16 * (k.val + 1)) ((obV).view.writes (Elt F) f [⟨Rect.unit (s := S3584) (k0_off20 k) S16.size (k0_off20_inb k), w⟩]) := by
  have e0 : k0_off20 k 0 = 16 * k.val := by rw [k0_off20_eq]; rfl
  intro y hy
  refine (read_at (F := F) cc0_scratch3 _ y).symm.trans
    (writes_apply (F := F) (obV).view f (fun y => sample p (u (y 0).val) (v (y 0).val)) _ ?_ y ?_)
  · intro q hq x
    obtain rfl := List.mem_singleton.1 hq
    have h0 : (((Rect.unit (s := S3584) (k0_off20 k) S16.size (k0_off20_inb k)).emb x) 0).val = 16 * k.val + (x 0).val := by
      show k0_off20 k 0 + 1 * (x 0).val = _
      rw [e0]; omega
    refine (hw x).trans ?_
    show _ = sample p (u (((Rect.unit (s := S3584) (k0_off20 k) S16.size (k0_off20_inb k)).emb x) 0).val) (v (((Rect.unit (s := S3584) (k0_off20 k) S16.size (k0_off20_inb k)).emb x) 0).val)
    rw [h0]
  · by_cases hlt : (y 0).val < 16 * k.val
    · exact .inr (hf y hlt)
    · refine .inl ⟨_, List.mem_singleton.2 rfl, ?_⟩
      rw [Rect.mem_set_unit]; intro a
      match a with
      | ⟨0, _⟩ => exact ⟨by show k0_off20 k 0 ≤ (y 0).val; omega, by show (y 0).val < k0_off20 k 0 + 16; omega⟩

variable (u v)
/-- The plane's buffer, as a gather addresses it. -/
theorem pts_access (p : S50176.Idx → F .f32) :
    (((plV).access (.whole S50176)).loc (tile d L) ↦[Finset.univ]{fullShare} p : sProp 𝕄) = ((plV).view.loc (tile d L) ↦{fullShare} p) := rfl

theorem trip5 (p : S50176.Idx → F .f32) (hu : ∀ k, Fit (u k)) (k : Fin k0_t5_loop.trips) :
    inv5 d L p u v k.val ⟨⟩ ⊢ wp frame (wpE (defs₀ (F := F)) 𝒱₀ (tile d L) none) Set.univ
      (k0_t5_body L xV (Memref.isWhole_whole _) gxV (Memref.isWhole_whole _) gyV (Memref.isWhole_whole _) oV (Memref.isWhole_whole _)
        plV (Memref.isWhole_whole _) ciV (Memref.isWhole_whole _) cwV (Memref.isWhole_whole _) obV (Memref.isWhole_whole _)
        bxV (Memref.isWhole_whole _) byV (Memref.isWhole_whole _) biV (Memref.isWhole_whole _) bwV (Memref.isWhole_whole _)
        shI (Memref.isWhole_whole _) shW (Memref.isWhole_whole _)
        cc0_scoped0 cc0_scoped1 cc0_scoped2 cc0_scoped3 cc0_scoped4 cc0_scoped5 cc0_scoped6 cc0_scoped7 k ⟨⟩)
      fun _ => inv5 d L p u v (k.val + 1) ⟨⟩ := by
  delta inv5
  iintro ⟨Hp, Hi, Hw, %fo, %ho, Ho⟩
  sl_unfold [k0_t5_body]
  sl_exec
  rw [show trip5.sl.v100 u v k = lowV u v k.val from low_read u v k _, wp_assume_of _ _ _ _ (chk_low k.val)]
  sl_exec
  rw [show trip5.sl.v103 u v k = highV u v k.val from high_read u v k _, wp_assume_of _ _ _ _ (chk_high k.val)]
  ihave Hp' := (Entails.of_eq (pts_access (F := F) d L p).symm) $$ Hp
  iapply (SparseCore.wp_vectorLoadIdx 𝒱₀ (tile d L) none Set.univ (base := plV) (S := Finset.univ) (q := fullShare) (Finset.subset_univ _)) $$ Hp'; iintro Hp'
  sl_exec
  rw [show trip5.sl.v108 u v k = addi (lowV u v k.val) (k0_pay21 (F := F) (lowV u v k.val) (highV u v k.val)) from rfl, wp_assume_of _ _ _ _ (chk_low_dx hu k.val)]
  iapply (SparseCore.wp_vectorLoadIdx 𝒱₀ (tile d L) none Set.univ (base := plV) (S := Finset.univ) (q := fullShare) (Finset.subset_univ _)) $$ Hp'; iintro Hp'
  sl_exec
  rw [show trip5.sl.v110 u v k = subi (highV u v k.val) (k0_pay21 (F := F) (lowV u v k.val) (highV u v k.val)) from rfl, wp_assume_of _ _ _ _ (chk_high_dx hu k.val)]
  iapply (SparseCore.wp_vectorLoadIdx 𝒱₀ (tile d L) none Set.univ (base := plV) (S := Finset.univ) (q := fullShare) (Finset.subset_univ _)) $$ Hp'; iintro Hp'
  iapply (SparseCore.wp_vectorLoadIdx 𝒱₀ (tile d L) none Set.univ (base := plV) (S := Finset.univ) (q := fullShare) (Finset.subset_univ _)) $$ Hp'; iintro Hp'
  sl_exec
  sl_step
  isplitl [Hp']; · iapply (Entails.of_eq (pts_access (F := F) d L p)); iexact Hp'
  isplitl [Hi]; · iexact Hi
  isplitl [Hw]; · iexact Hw
  iexists _; isplitr; swap; · iexact Ho
  ipureintro
  exact out_step p k fo ho _ (fun x => stored_apply p k (chk_low k.val) (chk_low_dx hu k.val) (chk_high_dx hu k.val) (chk_high k.val) x)

end Cert.KernelIdeal.Tile

end

end
-- ==== Proof.IPlane.lean ====
module

public import proofs.«01_k».proof.Proof.ITable
public import proofs.«01_k».proof.Proof.IPixel

/-!
# The loops over a tile's planes and over a plane's chunks
-/

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Vals

variable {F : FTy → Type} [FloatOps F]

local notation "𝕄" => MT nD τ sig (HIx 1) (Elt F) ℕ UU ℕ

variable (d : Dev nD) (L : grid0.Coords)

theorem trips3 : k0_t3_loop.trips = 12 := by decide
theorem trips4 : k0_t4_loop.trips = 14 := by decide
theorem trips5 : k0_t5_loop.trips = 224 := by decide

/-! ## The tile's planes -/

/-- The `t`-th plane of the tile's. -/
def pl (t : Nat) : Nat := (2 * (L 0).val + t / 6) * 96 + (L 1).val * 6 + t % 6
/-- The places of the result the tile fills: those of its twelve planes. -/
def mine : Finset S19267584.Idx := Finset.univ.filter fun y => (y 0).val / 50176 / 192 = (L 0).val ∧ (y 0).val / 50176 % 96 / 6 = (L 1).val
/-- The places filled before chunk `q` of plane `t`. -/
def Done (t q : Nat) (y : S19267584.Idx) : Prop :=
  (∃ t' < t, (y 0).val / 50176 = pl L t') ∨ ((y 0).val / 50176 = pl L t ∧ (y 0).val % 50176 < 3584 * q)
/-- The filled places hold the result. -/
def HasR (x : S19267584.Idx → F .f32) (gx gy : S200704.Idx → F .f32) (t q : Nat) (f : S19267584.Idx → F .f32) : Prop :=
  ∀ y ∈ mine L, Done L t q y → f y = outAt x gx gy (y 0).val

/-- The part of the result a chunk fills. -/
abbrev partO (t : Fin k0_t3_loop.trips) (q : Fin k0_t4_loop.trips) : Memref sig .scVector .hbm S3584 .f32 :=
  (oV).slice (Rect.unit (s := S19267584) (k0_off21 L t q) S3584.size (k0_off21_inb L t q)) (fun _ => rfl)

theorem emb_partO (t : Fin k0_t3_loop.trips) (q : Fin k0_t4_loop.trips) (j : S3584.Idx) :
    ((partO L t q).view.emb j 0).val = pl L t.val * 50176 + 3584 * q.val + (j 0).val := by
  show k0_off21 L t q 0 + 1 * (j 0).val = _
  rw [off21_eq]
  show ((2 * (L 0).val + t.val / 6) * 96 + (L 1).val * 6 + t.val % 6) * 50176 + 3584 * q.val + 1 * (j 0).val = _
  rw [Nat.one_mul]; rfl

theorem mem_partO (t : Fin k0_t3_loop.trips) (q : Fin k0_t4_loop.trips) (y : S19267584.Idx) :
    y ∈ (partO L t q).view.set ↔ pl L t.val * 50176 + 3584 * q.val ≤ (y 0).val ∧ (y 0).val < pl L t.val * 50176 + 3584 * q.val + 3584 := by
  show y ∈ ((View.whole main_v35_scv).slice (Rect.unit (s := S19267584) (k0_off21 L t q) S3584.size (k0_off21_inb L t q))).set ↔ _
  rw [View.set_slice_whole, Rect.mem_set_unit]
  have e0 : k0_off21 L t q 0 = pl L t.val * 50176 + 3584 * q.val := by rw [off21_eq]; rfl
  constructor
  · intro h
    have := h 0
    rw [e0] at this; exact this
  · rintro ⟨h1, h2⟩ a
    match a with
    | ⟨0, _⟩ => exact ⟨by show k0_off21 L t q 0 ≤ (y 0).val; rw [e0]; exact h1, by show (y 0).val < k0_off21 L t q 0 + 3584; rw [e0]; exact h2⟩

/-- Of a place in a chunk: its plane, and where in the plane. -/
theorem split_place {p q j k : Nat} (hk : k = p * 50176 + 3584 * q + j) (hq : q < 14) (hj : j < 3584) :
    k / 50176 = p ∧ k % 50176 = 3584 * q + j := by omega
theorem chunk_place {p q k : Nat} (hq : q < 14) (h1 : p * 50176 + 3584 * q ≤ k) (h2 : k < p * 50176 + 3584 * q + 3584) :
    k / 50176 = p := by omega
theorem before_chunk {p q k : Nat} (hp : k / 50176 = p) (hm : k % 50176 < 3584 * (q + 1))
    (hn : ¬ (p * 50176 + 3584 * q ≤ k ∧ k < p * 50176 + 3584 * q + 3584)) : k % 50176 < 3584 * q := by omega
theorem image_place {a b r k : Nat} (hk : k / 50176 = a * 96 + r) (hr : r < 96) (hb : b = k % 50176) : k / 4816896 * 50176 + k % 50176 = a * 50176 + b := by
  omega

theorem plane_mine {c s t : Nat} (ht : t < 12) (hs : s < 16) :
    ((2 * c + t / 6) * 96 + s * 6 + t % 6) / 192 = c ∧ ((2 * c + t / 6) * 96 + s * 6 + t % 6) % 96 / 6 = s := by
  have h1 : t / 6 < 2 := by omega
  have h2 : t % 6 < 6 := Nat.mod_lt _ (by decide)
  generalize t / 6 = a at *
  generalize t % 6 = b at *
  omega
theorem mine_plane {c s k : Nat} (h1 : k / 192 = c) (h2 : k % 96 / 6 = s) :
    ∃ t < 12, k = (2 * c + t / 6) * 96 + s * 6 + t % 6 := by
  refine ⟨k % 192 / 96 * 6 + k % 96 % 6, by omega, ?_⟩
  have e1 : (k % 192 / 96 * 6 + k % 96 % 6) / 6 = k % 192 / 96 := by omega
  have e2 : (k % 192 / 96 * 6 + k % 96 % 6) % 6 = k % 96 % 6 := by omega
  rw [e1, e2]; omega

theorem partO_mine (t : Fin k0_t3_loop.trips) (q : Fin k0_t4_loop.trips) : (partO L t q).view.set ⊆ mine L := by
  intro y hy
  have h := (mem_partO L t q y).1 hy
  have ht : t.val < 12 := lt_of_lt_of_eq t.isLt trips3
  have hq : q.val < 14 := lt_of_lt_of_eq q.isLt trips4
  refine Finset.mem_filter.2 ⟨Finset.mem_univ _, ?_⟩
  rw [chunk_place hq h.1 h.2]
  exact plane_mine ht (L 1).isLt

/-! ## What a chunk works on -/

/-- The plane a trip copies in. -/
def plane (x : S19267584.Idx → F .f32) (t : Nat) : S50176.Idx → F .f32 := fun y => nth x (pl L t * 50176 + (y 0).val)
/-- The coordinates along a chunk. -/
def along (g : S200704.Idx → F .f32) (t q : Nat) : Nat → F .f32 := fun j => nth g ((L 0).val * 100352 + (t / 6 * 50176 + 3584 * q + j))

theorem fill_pl (t : Fin k0_t3_loop.trips) (x : S19267584.Idx → F .f32) (f : S50176.Idx → F .f32) :
    View.write (Elt F) (plV).view f (View.read (Elt F) ((xV).slice (Rect.unit (s := S19267584) (k0_off11 L t) S50176.size (k0_off11_inb L t)) (fun _ => rfl)).view x) Finset.univ
      = plane L x t.val := by
  refine (View.write_whole_univ (Val := Elt F) cc0_scratch0 f _).trans (funext fun y => ?_)
  show x ((Rect.unit (s := S19267584) (k0_off11 L t) S50176.size (k0_off11_inb L t)).emb y) = _
  have h : (((Rect.unit (s := S19267584) (k0_off11 L t) S50176.size (k0_off11_inb L t)).emb y) 0).val = pl L t.val * 50176 + (y 0).val := by
    show k0_off11 L t 0 + 1 * (y 0).val = _
    rw [off11_eq, Nat.one_mul]; rfl
  unfold plane; rw [← h, nth_val]

theorem fill_ci (t : Fin k0_t3_loop.trips) (q : Fin k0_t4_loop.trips) (gx gy : S200704.Idx → F .f32) (f : S2x3584.Idx → BitVec 32) :
    View.write (Elt F) (ciV).view f (View.read (Elt F) ((shI).slice (Rect.unit (s := S2x100352) (k0_off12 t q) S2x3584.size (k0_off12_inb t q)) (fun _ => rfl)).view (tblI gx gy (L 0).val)) Finset.univ
      = chunkI (along L gx t.val q.val) (along L gy t.val q.val) := by
  refine (View.write_whole_univ (Val := Elt F) cc0_scratch1 f _).trans (funext fun y => ?_)
  show tblI gx gy (L 0).val ((Rect.unit (s := S2x100352) (k0_off12 t q) S2x3584.size (k0_off12_inb t q)).emb y) = _
  have h0 : (((Rect.unit (s := S2x100352) (k0_off12 t q) S2x3584.size (k0_off12_inb t q)).emb y) 0).val = (y 0).val := by
    show k0_off12 t q 0 + 1 * (y 0).val = _
    rw [off12_eq, Nat.one_mul]; show 0 + (y 0).val = _; rw [Nat.zero_add]
  have h1 : (((Rect.unit (s := S2x100352) (k0_off12 t q) S2x3584.size (k0_off12_inb t q)).emb y) 1).val = t.val / 6 * 50176 + 3584 * q.val + (y 1).val := by
    show k0_off12 t q 1 + 1 * (y 1).val = _
    rw [off12_eq, Nat.one_mul]; rfl
  unfold tblI chunkI along; rw [h0, h1]
theorem fill_cw (t : Fin k0_t3_loop.trips) (q : Fin k0_t4_loop.trips) (gx gy : S200704.Idx → F .f32) (f : S4x3584.Idx → F .f32) :
    View.write (Elt F) (cwV).view f (View.read (Elt F) ((shW).slice (Rect.unit (s := S4x100352) (k0_off13 t q) S4x3584.size (k0_off13_inb t q)) (fun _ => rfl)).view (tblW gx gy (L 0).val)) Finset.univ
      = chunkW (along L gx t.val q.val) (along L gy t.val q.val) := by
  refine (View.write_whole_univ (Val := Elt F) cc0_scratch2 f _).trans (funext fun y => ?_)
  show tblW gx gy (L 0).val ((Rect.unit (s := S4x100352) (k0_off13 t q) S4x3584.size (k0_off13_inb t q)).emb y) = _
  have h0 : (((Rect.unit (s := S4x100352) (k0_off13 t q) S4x3584.size (k0_off13_inb t q)).emb y) 0).val = (y 0).val := by
    show k0_off13 t q 0 + 1 * (y 0).val = _
    rw [off13_eq, Nat.one_mul]; show 0 + (y 0).val = _; rw [Nat.zero_add]
  have h1 : (((Rect.unit (s := S4x100352) (k0_off13 t q) S4x3584.size (k0_off13_inb t q)).emb y) 1).val = t.val / 6 * 50176 + 3584 * q.val + (y 1).val := by
    show k0_off13 t q 1 + 1 * (y 1).val = _
    rw [off13_eq, Nat.one_mul]; rfl
  unfold tblW chunkW along; rw [h0, h1]

/-- Two planes that agree where the corners lie blend alike. -/
theorem blend_congr (p p' : Nat → F .f32) (h : ∀ a < 50176, p a = p' a) {u : F .f32} (hu : Fit u) (v : F .f32) :
    blend p (lowIx u v) (highIx u v) (tabW u v) = blend p' (lowIx u v) (highIx u v) (tabW u v) := by
  unfold blend
  rw [h _ (lowIx_lt u v), h _ (highIx_lt u v), h _ (low_dx_lt v hu), h _ (high_dx_lt v hu)]

theorem core_place (c a b j : Nat) : c * 100352 + (a * 50176 + b + j) = (2 * c + a) * 50176 + (b + j) := by omega

/-- A chunk's sample is the result's value at its place. -/
theorem sample_out (x : S19267584.Idx → F .f32) (gx gy : S200704.Idx → F .f32) (hx : ∀ k, Fit (nth gx k)) {t q j k : Nat}
    (hk : k = pl L t * 50176 + 3584 * q + j) (hq : q < 14) (hj : j < 3584) :
    sample (plane L x t) (along L gx t q j) (along L gy t q j) = outAt x gx gy k := by
  obtain ⟨e1, e2⟩ := split_place hk hq hj
  have hs : (L 1).val < 16 := (L 1).isLt
  have hr : (L 1).val * 6 + t % 6 < 96 := by omega
  have e3 : k / 4816896 * 50176 + k % 50176 = (2 * (L 0).val + t / 6) * 50176 + (3584 * q + j) :=
    image_place (r := (L 1).val * 6 + t % 6) (by rw [e1]; unfold pl; omega) hr e2.symm
  have e4 : (L 0).val * 100352 + (t / 6 * 50176 + 3584 * q + j) = (2 * (L 0).val + t / 6) * 50176 + (3584 * q + j) := core_place _ _ _ _
  unfold outAt sample along
  simp only [e1, e3, e4]
  refine blend_congr _ _ (fun a ha => ?_) (hx _) _
  rw [nth_of_lt _ ha]; rfl

/-- The tile's part with the chunk written holds the result up to the next chunk. -/
theorem out_chunk (x : S19267584.Idx → F .f32) (gx gy : S200704.Idx → F .f32) (hx : ∀ k, Fit (nth gx k))
    (t : Fin k0_t3_loop.trips) (q : Fin k0_t4_loop.trips) (f : S19267584.Idx → F .f32) (hf : HasR L x gx gy t.val q.val f)
    (w : S3584.Idx → F .f32) (hw : HasO (plane L x t.val) (along L gx t.val q.val) (along L gy t.val q.val) 3584 w)
    (g : S19267584.Idx → F .f32) (hg : ∀ j, (partO L t q).view.read (Elt F) g j = w j) :
    HasR L x gx gy t.val (q.val + 1) ((partO L t q).view.set.piecewise g f) := by
  have hq : q.val < 14 := lt_of_lt_of_eq q.isLt trips4
  intro y hy hd
  by_cases hm : y ∈ (partO L t q).view.set
  · rw [Finset.piecewise_eq_of_mem _ _ _ hm]
    obtain ⟨j, -, rfl⟩ := Finset.mem_map.1 hm
    have hj : (j 0).val < 3584 := (j 0).isLt
    exact (show g ((partO L t q).view.emb j) = w j from hg j).trans ((hw j hj).trans (sample_out L x gx gy hx (emb_partO L t q j) hq hj))
  · rw [Finset.piecewise_eq_of_notMem _ _ _ hm]
    refine hf y hy ?_
    rcases hd with hd | ⟨h1, h2⟩
    · exact .inl hd
    · exact .inr ⟨h1, before_chunk h1 h2 fun hc => hm ((mem_partO L t q y).2 hc)⟩

/-- A plane's last chunk fills it. -/
theorem out_plane (x : S19267584.Idx → F .f32) (gx gy : S200704.Idx → F .f32) (t : Nat) (f : S19267584.Idx → F .f32)
    (hf : HasR L x gx gy t 14 f) : HasR L x gx gy (t + 1) 0 f := by
  intro y hy hd
  refine hf y hy ?_
  rcases hd with ⟨t', h1, h2⟩ | ⟨-, h2⟩
  · rcases Nat.lt_succ_iff_lt_or_eq.1 h1 with h | rfl
    · exact .inl ⟨t', h, h2⟩
    · exact .inr ⟨h2, Nat.mod_lt _ (by decide)⟩
  · exact absurd h2 (by omega)

/-- All twelve planes filled, the tile's places hold the result. -/
theorem out_all (x : S19267584.Idx → F .f32) (gx gy : S200704.Idx → F .f32) (f : S19267584.Idx → F .f32)
    (hf : HasR L x gx gy 12 0 f) : ∀ y ∈ mine L, f y = outAt x gx gy (y 0).val := fun y hy =>
  hf y hy (.inl (mine_plane (Finset.mem_filter.1 hy).2.1 (Finset.mem_filter.1 hy).2.2))
theorem out_none (x : S19267584.Idx → F .f32) (gx gy : S200704.Idx → F .f32) (f : S19267584.Idx → F .f32) : HasR L x gx gy 0 0 f := by
  rintro y - (⟨t', h, -⟩ | ⟨-, h⟩)
  · exact absurd h (Nat.not_lt_zero _)
  · exact absurd h (Nat.not_lt_zero _)

/-! ## The loops -/

def inv4 (x : S19267584.Idx → F .f32) (gx gy : S200704.Idx → F .f32) (qs : PosShare TreeShare) (O : CellTallies nD τ sig (HIx 1)) (W : Waits sig (HIx 1))
    (t q : Nat) (_ : PUnit) : sProp 𝕄 :=
  iprop(Transfers.MayWaits (tile d L) (none : HIx 1) O
    ∗ ((shI).view.loc (tile d L) ↦{qs} tblI gx gy (L 0).val) ∗ ((shW).view.loc (tile d L) ↦{qs} tblW gx gy (L 0).val)
    ∗ ((plV).view.loc (tile d L) ↦{fullShare} plane L x t)
    ∗ (∃ f, (ciV).view.loc (tile d L) ↦{fullShare} f) ∗ (∃ f, (cwV).view.loc (tile d L) ↦{fullShare} f) ∗ (∃ f, (obV).view.loc (tile d L) ↦{fullShare} f)
    ∗ (∃ f, ⌜HasR L x gx gy t q f⌝ ∗ (oV).view.loc (tile d L) ↦[mine L]{fullShare} f)
    ∗ semVal (tile d L, SemLoc.dma cc0_scoped5.sem) 0 ∗ semVal (tile d L, SemLoc.dma cc0_scoped6.sem) 0 ∗ semVal (tile d L, SemLoc.dma cc0_scoped7.sem) 0
    ∗ ∃ W', ⌜∀ p ∈ W', p ∈ W ∨ p.2 = none⌝ ∗ owes (tile d L) O W')

/-- The chunk's part of the result taken out of the tile's, and put back. -/
theorem takeO (t : Fin k0_t3_loop.trips) (q : Fin k0_t4_loop.trips) (f : S19267584.Idx → F .f32) :
    ((oV).view.loc (tile d L) ↦[mine L]{fullShare} f : sProp 𝕄)
      ⊣⊢ iprop(((partO L t q).view.loc (tile d L) ↦[(partO L t q).view.set]{fullShare} f)
        ∗ (oV).view.loc (tile d L) ↦[mine L \ (partO L t q).view.set]{fullShare} f) :=
  pointsTo_split_subset (partO_mine L t q)
theorem putO (t : Fin k0_t3_loop.trips) (q : Fin k0_t4_loop.trips) (f g : S19267584.Idx → F .f32) :
    iprop(((partO L t q).view.loc (tile d L) ↦[(partO L t q).view.set]{fullShare} g)
        ∗ (oV).view.loc (tile d L) ↦[mine L \ (partO L t q).view.set]{fullShare} f)
      ⊢ ((oV).view.loc (tile d L) ↦[mine L]{fullShare} (partO L t q).view.set.piecewise g f : sProp 𝕄) :=
  pointsTo_join_subset (partO_mine L t q)

theorem trip4 (x : S19267584.Idx → F .f32) (gx gy : S200704.Idx → F .f32) (hx : ∀ k, Fit (nth gx k)) (qs : PosShare TreeShare) (O : CellTallies nD τ sig (HIx 1)) (W : Waits sig (HIx 1))
    (t : Fin k0_t3_loop.trips) (q : Fin k0_t4_loop.trips) :
    inv4 d L x gx gy qs O W t.val q.val ⟨⟩ ⊢ wp frame (wpE (defs₀ (F := F)) 𝒱₀ (tile d L) none) Set.univ
      (k0_t4_body L xV (Memref.isWhole_whole _) gxV (Memref.isWhole_whole _) gyV (Memref.isWhole_whole _) oV (Memref.isWhole_whole _)
        plV (Memref.isWhole_whole _) ciV (Memref.isWhole_whole _) cwV (Memref.isWhole_whole _) obV (Memref.isWhole_whole _)
        bxV (Memref.isWhole_whole _) byV (Memref.isWhole_whole _) biV (Memref.isWhole_whole _) bwV (Memref.isWhole_whole _)
        shI (Memref.isWhole_whole _) shW (Memref.isWhole_whole _)
        cc0_scoped0 cc0_scoped1 cc0_scoped2 cc0_scoped3 cc0_scoped4 cc0_scoped5 cc0_scoped6 cc0_scoped7 t q ⟨⟩)
      fun _ => inv4 d L x gx gy qs O W t.val (q.val + 1) ⟨⟩ := by
  delta inv4
  iintro ⟨Hmw, HI, HW, Hp, ⟨%fi, Hi⟩, ⟨%fw, Hw⟩, ⟨%fo, Ho⟩, ⟨%fr, %hr, Hr⟩, Hs5, Hs6, Hs7, %W', %hW', HO⟩
  ihave Hr' := (takeO d L t q fr).1 $$ Hr
  icases Hr' with ⟨Hr, HrR⟩
  sl_unfold [k0_t4_body]
  sl_exec (disch := first | exact View.amount_pos _ _ (show 0 < S2x3584.numel by decide) | exact View.amount_pos _ _ (show 0 < S4x3584.numel by decide))
  sl_for (inv5 d L (plane L x t.val) (along L gx t.val q.val) (along L gy t.val q.val)) $$ [Hp Hi Hw Ho]
  case region => exact fun k _ => trip5 d L _ _ _ (fun j => hx _) k
  · delta inv5
    isplitl [Hp]; · iexact Hp
    isplitl [Hi]; · iapply (Entails.of_eq (congrArg (fun f => ((ciV).view.loc (tile d L) ↦{fullShare} f : sProp 𝕄)) (fill_ci L t q gx gy fi))); iexact Hi
    isplitl [Hw]; · iapply (Entails.of_eq (congrArg (fun f => ((cwV).view.loc (tile d L) ↦{fullShare} f : sProp 𝕄)) (fill_cw L t q gx gy fw))); iexact Hw
    iexists fo; isplitr; · ipureintro; exact fun y h => absurd h (Nat.not_lt_zero _)
    iexact Ho
  iintro %_ HI5
  delta inv5
  icases HI5 with ⟨Hp, Hi, Hw, %fo', %ho', Ho⟩
  sl_exec (disch := exact View.amount_pos _ _ (show 0 < S3584.numel by decide))
  sl_step
  isplitl [Hmw]; · iexact Hmw
  isplitl [HI]; · iexact HI
  isplitl [HW]; · iexact HW
  isplitl [Hp]; · iexact Hp
  isplitl [Hi]; · iexists _; iexact Hi
  isplitl [Hw]; · iexists _; iexact Hw
  isplitl [Ho]; · iexists _; iexact Ho
  isplitl [Hr HrR]
  · iexists _; isplitr; swap
    · iapply (putO d L t q _ _); isplitl [Hr]; · iexact Hr
      iexact HrR
    ipureintro
    exact out_chunk L x gx gy hx t q fr hr fo' ho' _ (fun j => writes_whole (partO L t q).view fr _ j)
  isplitl [Hs5]; · iexact Hs5
  isplitl [Hs6]; · iexact Hs6
  isplitl [Hs7]; · iexact Hs7
  iexists _; isplitr; swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

def inv3 (x : S19267584.Idx → F .f32) (gx gy : S200704.Idx → F .f32) (qx qs : PosShare TreeShare) (O : CellTallies nD τ sig (HIx 1)) (W : Waits sig (HIx 1))
    (t : Nat) (_ : PUnit) : sProp 𝕄 :=
  iprop(Transfers.MayWaits (tile d L) (none : HIx 1) O
    ∗ ((xV).view.loc (tile d L) ↦{qx} x)
    ∗ ((shI).view.loc (tile d L) ↦{qs} tblI gx gy (L 0).val) ∗ ((shW).view.loc (tile d L) ↦{qs} tblW gx gy (L 0).val)
    ∗ (∃ f, (plV).view.loc (tile d L) ↦{fullShare} f)
    ∗ (∃ f, (ciV).view.loc (tile d L) ↦{fullShare} f) ∗ (∃ f, (cwV).view.loc (tile d L) ↦{fullShare} f) ∗ (∃ f, (obV).view.loc (tile d L) ↦{fullShare} f)
    ∗ (∃ f, ⌜HasR L x gx gy t 0 f⌝ ∗ (oV).view.loc (tile d L) ↦[mine L]{fullShare} f)
    ∗ semVal (tile d L, SemLoc.dma cc0_scoped4.sem) 0
    ∗ semVal (tile d L, SemLoc.dma cc0_scoped5.sem) 0 ∗ semVal (tile d L, SemLoc.dma cc0_scoped6.sem) 0 ∗ semVal (tile d L, SemLoc.dma cc0_scoped7.sem) 0
    ∗ ∃ W', ⌜∀ p ∈ W', p ∈ W ∨ p.2 = none⌝ ∗ owes (tile d L) O W')

theorem trip3 (x : S19267584.Idx → F .f32) (gx gy : S200704.Idx → F .f32) (hx : ∀ k, Fit (nth gx k)) (qx qs : PosShare TreeShare) (O : CellTallies nD τ sig (HIx 1)) (W : Waits sig (HIx 1))
    (a0 a1 : BitVec 32) (t : Fin k0_t3_loop.trips) :
    inv3 d L x gx gy qx qs O W t.val ⟨⟩ ⊢ wp frame (wpE (defs₀ (F := F)) 𝒱₀ (tile d L) none) Set.univ
      (k0_t3_body L xV (Memref.isWhole_whole _) gxV (Memref.isWhole_whole _) gyV (Memref.isWhole_whole _) oV (Memref.isWhole_whole _)
        plV (Memref.isWhole_whole _) ciV (Memref.isWhole_whole _) cwV (Memref.isWhole_whole _) obV (Memref.isWhole_whole _)
        bxV (Memref.isWhole_whole _) byV (Memref.isWhole_whole _) biV (Memref.isWhole_whole _) bwV (Memref.isWhole_whole _)
        shI (Memref.isWhole_whole _) shW (Memref.isWhole_whole _)
        cc0_scoped0 cc0_scoped1 cc0_scoped2 cc0_scoped3 cc0_scoped4 cc0_scoped5 cc0_scoped6 cc0_scoped7 a0 a1 t ⟨⟩)
      fun _ => inv3 d L x gx gy qx qs O W (t.val + 1) ⟨⟩ := by
  delta inv3
  iintro ⟨Hmw, Hx, HI, HW, ⟨%fp, Hp⟩, Hi, Hw, Ho, Hr, Hs4, Hs5, Hs6, Hs7, %W', %hW', HO⟩
  sl_unfold [k0_t3_body]
  sl_exec (disch := exact View.amount_pos _ _ (show 0 < S50176.numel by decide))
  sl_for (inv4 d L x gx gy qs O W t.val) $$ [Hmw HI HW Hp Hi Hw Ho Hr Hs5 Hs6 Hs7 HO]
  case region => exact fun q _ => trip4 d L x gx gy hx qs O W t q
  · delta inv4
    isplitl [Hmw]; · iexact Hmw
    isplitl [HI]; · iexact HI
    isplitl [HW]; · iexact HW
    isplitl [Hp]; · iapply (Entails.of_eq (congrArg (fun f => ((plV).view.loc (tile d L) ↦{fullShare} f : sProp 𝕄)) (fill_pl L t x fp))); iexact Hp
    isplitl [Hi]; · iexact Hi
    isplitl [Hw]; · iexact Hw
    isplitl [Ho]; · iexact Ho
    isplitl [Hr]; · iexact Hr
    isplitl [Hs5]; · iexact Hs5
    isplitl [Hs6]; · iexact Hs6
    isplitl [Hs7]; · iexact Hs7
    iexists _; isplitr; swap; · iexact HO
    ipureintro; intro p hp
    rcases Finset.mem_insert.mp hp with hp | hp; · exact .inr (hp ▸ rfl)
    exact hW' p hp
  iintro %_ HI4
  delta inv4
  icases HI4 with ⟨Hmw, HI, HW, Hp, Hi, Hw, Ho, ⟨%fr, %hr, Hr⟩, Hs5, Hs6, Hs7, HO⟩
  sl_exec
  sl_step
  isplitl [Hmw]; · iexact Hmw
  isplitl [Hx]; · iexact Hx
  isplitl [HI]; · iexact HI
  isplitl [HW]; · iexact HW
  isplitl [Hp]; · iexists _; iexact Hp
  isplitl [Hi]; · iexact Hi
  isplitl [Hw]; · iexact Hw
  isplitl [Ho]; · iexact Ho
  isplitl [Hr]
  · iexists fr; isplitr; · ipureintro; exact out_plane L x gx gy t.val fr hr
    iexact Hr
  isplitl [Hs4]; · iexact Hs4
  isplitl [Hs5]; · iexact Hs5
  isplitl [Hs6]; · iexact Hs6
  isplitl [Hs7]; · iexact Hs7
  iexact HO

end Cert.KernelIdeal.Tile

end

end
-- ==== Proof.ITile.lean ====
module

public import proofs.«01_k».proof.Proof.IPlane

/-!
# A tile's task

The sixteen tiles of a SparseCore fill the two shared tables block by block, meet at the barrier, and then each
reads both tables whole. The barrier carries the blocks: tile `n`, which owns its block, hands tile `j` the `j`-th
share of it at the table's values; a tile that has met the fifteen others holds its share of every block, the whole
tables.
-/

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Vals

variable {F : FTy → Type} [FloatOps F]

local notation "𝕄" => MT nD τ sig (HIx 1) (Elt F) ℕ UU ℕ

/-- The call's operands: the flat input and the two flat coordinate tables. -/
structure Args (F : FTy → Type) where
  x : S19267584.Idx → F .f32
  gx : S200704.Idx → F .f32
  gy : S200704.Idx → F .f32

/-- What the call leaves in the flat result. -/
def Args.out (A : Args F) : S19267584.Idx → F .f32 := fun y => outAt A.x A.gx A.gy (y 0).val

variable (A : Dev nD → Args F)

/-! ## The buffers of the call -/

abbrev xLoc (d : Dev nD) : Loc nD τ sig := (SparseCore.T d).loc main_v32
abbrev gxLoc (d : Dev nD) : Loc nD τ sig := (SparseCore.T d).loc main_v33
abbrev gyLoc (d : Dev nD) : Loc nD τ sig := (SparseCore.T d).loc main_v34
abbrev oLoc (d : Dev nD) : Loc nD τ sig := (SparseCore.T d).loc main_v35
abbrev shIRef (c : Fin τ.nSC) : DevRef τ sig := ⟨.shared, ⟨0, by decide⟩, c⟩
abbrev shWRef (c : Fin τ.nSC) : DevRef τ sig := ⟨.shared, ⟨1, by decide⟩, c⟩
abbrev shILoc (d : Dev nD) (c : Fin τ.nSC) : Loc nD τ sig := (d, shIRef c)
abbrev shWLoc (d : Dev nD) (c : Fin τ.nSC) : Loc nD τ sig := (d, shWRef c)

abbrev cV (L : grid0.Coords) : Fin τ.nSC := (L 0).castLE hcore0
abbrev jV (L : grid0.Coords) : Fin τ.nSub := (L 1).castLE hsub0
theorem nSub_bound : τ.nSub = grid0.bound 1 := rfl

/-- The tile's share of an operand all the tiles read. -/
def qX (L : grid0.Coords) : PosShare TreeShare :=
  Transfers.dealOf (Transfers.dealOf fullShare (Finset.univ : Finset (Fin (grid0.bound 0))) (L 0)) (Finset.univ : Finset (Fin (grid0.bound 1))) (L 1)
/-- Tile `j`'s share of its SparseCore's shared tables. -/
def qS (j : Fin (grid0.bound 1)) : PosShare TreeShare := Transfers.dealOf fullShare (Finset.univ : Finset (Fin (grid0.bound 1))) j

/-! ## The blocks of a shared table -/

theorem cols_disjoint (n : Nat) : ∀ a ∈ (Finset.univ : Finset (Fin (grid0.bound 1))), ∀ b ∈ (Finset.univ : Finset (Fin (grid0.bound 1))), a ≠ b →
    Disjoint (cols n a.val) (cols n b.val) := by
  intro a _ b _ h
  rw [Finset.disjoint_left]
  intro y h1 h2
  exact h (Fin.ext ((Finset.mem_filter.1 h1).2.symm.trans (Finset.mem_filter.1 h2).2))
theorem cols_cover (n : Nat) : (Finset.univ : Finset (Fin (grid0.bound 1))).biUnion (fun a => cols n a.val) = Finset.univ := by
  refine Finset.eq_univ_of_forall fun y => Finset.mem_biUnion.2 ⟨⟨(y 1).val / 6272, ?_⟩, Finset.mem_univ _, Finset.mem_filter.2 ⟨Finset.mem_univ _, rfl⟩⟩
  have h : (y 1).val < 100352 := (y 1).isLt
  show (y 1).val / 6272 < 16
  omega

theorem shI_blocks (d : Dev nD) (c : Fin τ.nSC) (q : PosShare TreeShare) (f : S2x100352.Idx → BitVec 32) :
    (shILoc d c ↦{q} f : sProp 𝕄) = bigSep Finset.univ fun a : Fin (grid0.bound 1) => shILoc d c ↦[cols 2 a.val]{q} f := by
  rw [← pointsTo_biUnion Finset.univ (ℓ := shILoc d c) (fun a : Fin (grid0.bound 1) => cols 2 a.val) (cols_disjoint 2), cols_cover]; try rfl
theorem shW_blocks (d : Dev nD) (c : Fin τ.nSC) (q : PosShare TreeShare) (f : S4x100352.Idx → F .f32) :
    (shWLoc d c ↦{q} f : sProp 𝕄) = bigSep Finset.univ fun a : Fin (grid0.bound 1) => shWLoc d c ↦[cols 4 a.val]{q} f := by
  rw [← pointsTo_biUnion Finset.univ (ℓ := shWLoc d c) (fun a : Fin (grid0.bound 1) => cols 4 a.val) (cols_disjoint 4), cols_cover]; try rfl

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

theorem isBar_bcell (d : Dev nD) (c : Fin τ.nSC) (j : Fin τ.nSub) : isBar (bcell d c j) = true := by simp [isBar]

/-- Tile `j`'s share of block `n` of both tables, at the tables' values. -/
abbrev blk (d : Dev nD) (c : Fin τ.nSC) (n : ℕ) (j : Fin (grid0.bound 1)) : sProp 𝕄 :=
  iprop((shILoc d c ↦[cols 2 n]{qS j} tblI (A d).gx (A d).gy c.val) ∗ shWLoc d c ↦[cols 4 n]{qS j} tblW (A d).gx (A d).gy c.val)

/-- What tile `n`'s duty in tile `j`'s round hands over. -/
def bPay (g : GSem nD τ sig) (n : ℕ) : sProp 𝕄 :=
  match g with
  | ((d, .scVector c j), _) => blk A d c n (Fin.cast nSub_bound j)
  | _ => iprop(emp)

/-- The barrier cells' schedule: one round on each, of one unit duty per tile of the SparseCore, named by its number. -/
def bRd : Rounds.Schedule (GSem nD τ sig) ℕ 𝕄 where
  duties g r := if isBar g ∧ r = 0 then (Finset.univ : Finset (Fin τ.nSub)).image Fin.val else ∅
  amount _ _ _ := 1
  payload g _ n := bPay A g n
  amount_pos _ _ _ _ := Nat.one_pos

instance bRd_payload_storable (g : GSem nD τ sig) (r n : ℕ) : BI.Storable (upEmb : UEmb _ 𝕄) ((bRd A).payload g r n) := by
  show BI.Storable upEmb (bPay A g n)
  unfold bPay
  rcases g with ⟨⟨d, _ | c | ⟨c, i⟩⟩, sm⟩ <;> dsimp only <;> infer_instance

theorem bRd_duties₀ (d : Dev nD) (c : Fin τ.nSC) (j : Fin τ.nSub) : (bRd A).duties (bcell d c j) 0 = (Finset.univ : Finset (Fin τ.nSub)).image Fin.val := by
  simp [bRd, isBar]
theorem bRd_duties_succ (g : GSem nD τ sig) (r : ℕ) (hr : 1 ≤ r) : (bRd A).duties g r = ∅ :=
  if_neg fun h => absurd h.2 (Nat.ne_of_gt hr)
theorem bRd_mem₀ (d : Dev nD) (c : Fin τ.nSC) (j i : Fin τ.nSub) : i.val ∈ (bRd A).duties (bcell d c j) 0 := by
  rw [bRd_duties₀]; exact Finset.mem_image_of_mem _ (Finset.mem_univ i)
theorem bRd_expect (d : Dev nD) (c : Fin τ.nSC) (j : Fin τ.nSub) : 0 + grid0.bound 1 = (bRd A).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What tile `(c, i)` owes for the barrier from the launch on: a unit on every tile's cell of its SparseCore. -/
def oxV (d : Dev nD) (c : Fin τ.nSC) : CellTallies nD τ sig (HIx 1) := ∑ j : Fin (grid0.bound 1), tallyAt (bcell d c (j.castLE hsub0)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: the cells' invariants of its SparseCore and that each has reached round 0, its own
    position, its duty token in every tile's round, and the credit for its own round's sixteen units. -/
def bkit (d : Dev nD) (c : Fin τ.nSC) (i : Fin τ.nSub) : sProp 𝕄 :=
  iprop((∃ κ : GSem nD τ sig → ℕ, bigSep Finset.univ fun j : Fin (grid0.bound 1) =>
      cellInv EB (bRd A) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What a tile is handed and hands back -/

/-- The tile's shares of the operands. -/
abbrev reads (d : Dev nD) (L : grid0.Coords) : sProp 𝕄 :=
  iprop((xLoc d ↦{qX L} (A d).x) ∗ (gxLoc d ↦{qX L} (A d).gx) ∗ gyLoc d ↦{qX L} (A d).gy)
/-- What the call brings it: those, and its part of the result. -/
abbrev tIn (d : Dev nD) (L : grid0.Coords) : sProp 𝕄 := iprop(reads A d L ∗ ∃ f, oLoc d ↦[mine L]{fullShare} f)
/-- What it leaves: its part of the result at the result's values. -/
abbrev tOut (d : Dev nD) (L : grid0.Coords) : sProp 𝕄 := iprop(reads A d L ∗ oLoc d ↦[mine L]{fullShare} (A d).out)
/-- Its block of the shared tables, to fill. -/
abbrev shIn (d : Dev nD) (c : Fin τ.nSC) (j : Fin (grid0.bound 1)) : sProp 𝕄 :=
  iprop((∃ f, shILoc d c ↦[cols 2 j.val]{fullShare} f) ∗ ∃ f, shWLoc d c ↦[cols 4 j.val]{fullShare} f)
/-- Its share of the tables whole, filled. -/
abbrev shOut (d : Dev nD) (c : Fin τ.nSC) (j : Fin (grid0.bound 1)) : sProp 𝕄 :=
  iprop((shILoc d c ↦{qS j} tblI (A d).gx (A d).gy c.val) ∗ shWLoc d c ↦{qS j} tblW (A d).gx (A d).gy c.val)

section Tile

variable (d : Dev nD) (L : grid0.Coords)

/-- Before the barrier: the tile's block, filled, is what its duties hand over. -/
theorem pays_intro : iprop((shILoc d (cV L) ↦[cols 2 (L 1).val]{fullShare} tblI (A d).gx (A d).gy (cV L).val)
      ∗ shWLoc d (cV L) ↦[cols 4 (L 1).val]{fullShare} tblW (A d).gx (A d).gy (cV L).val)
    ⊢ (bigSep Finset.univ fun j : Fin (grid0.bound 1) => (bRd A).payload (bcell d (cV L) (j.castLE hsub0)) 0 (jV L).val : sProp 𝕄) := by
  refine Entails.of_eq ?_
  rw [show (bigSep Finset.univ fun j : Fin (grid0.bound 1) => (bRd A).payload (bcell d (cV L) (j.castLE hsub0)) 0 (jV L).val)
      = bigSep Finset.univ fun j : Fin (grid0.bound 1) => blk A d (cV L) (L 1).val j from bigSep_congr fun j _ => rfl, bigSep_sep']
  unfold qS
  rw [← Transfers.pointsTo_deal Finset.univ ⟨L 1, Finset.mem_univ _⟩ fullShare, ← Transfers.pointsTo_deal Finset.univ ⟨L 1, Finset.mem_univ _⟩ fullShare]

/-- After it: what the tile's own round collected is its share of the whole tables. -/
theorem pays_elim : (bigSep ((bRd A).duties (bcell d (cV L) (jV L)) 0 \ ∅) fun n => (bRd A).payload (bcell d (cV L) (jV L)) 0 n)
    ⊢ (shOut A d (cV L) (L 1) : sProp 𝕄) := by
  refine Entails.of_eq ?_
  rw [Finset.sdiff_empty, bRd_duties₀, SparseCore.bigSep_image_of_injOn (fun a _ b _ e => Fin.val_injective e)]
  unfold shOut
  rw [shI_blocks, shW_blocks, ← bigSep_sep']
  rfl

/-! ## The tile's own buffers and semaphores -/

abbrev scr : Fin 8 → Ref sig .scVector := ![cc0_scratch0, cc0_scratch1, cc0_scratch2, cc0_scratch3, cc0_scratch4, cc0_scratch5, cc0_scratch6, cc0_scratch7]
abbrev sem8 : Fin 8 → SemLoc sig := ![.dma cc0_scoped0.sem, .dma cc0_scoped1.sem, .dma cc0_scoped2.sem, .dma cc0_scoped3.sem,
  .dma cc0_scoped4.sem, .dma cc0_scoped5.sem, .dma cc0_scoped6.sem, .dma cc0_scoped7.sem]

theorem scr_inj : Function.Injective scr := by decide
theorem sem8_inj : Function.Injective sem8 := by decide

theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

abbrev semCells : Finset (GSem nD τ sig) := Finset.univ.image fun k : Fin 8 => (tile d L, sem8 k)
abbrev scrRefs : Finset (DevRef τ sig) := Finset.univ.image fun k : Fin 8 => (Proc.scVector (cV L) (jV L)).devRef (scr k)

theorem ownSems0_V :
    (ownSems0 (V d (cV L) (jV L)) : sProp 𝕄)
      = iprop((semVal (tile d L, SemLoc.dma cc0_scoped0.sem) 0 ∗ semVal (tile d L, SemLoc.dma cc0_scoped1.sem) 0
          ∗ semVal (tile d L, SemLoc.dma cc0_scoped2.sem) 0 ∗ semVal (tile d L, SemLoc.dma cc0_scoped3.sem) 0
          ∗ semVal (tile d L, SemLoc.dma cc0_scoped4.sem) 0 ∗ semVal (tile d L, SemLoc.dma cc0_scoped5.sem) 0
          ∗ semVal (tile d L, SemLoc.dma cc0_scoped6.sem) 0 ∗ semVal (tile d L, SemLoc.dma cc0_scoped7.sem) 0)
          ∗ bigSep (ownCells (V d (cV L) (jV L)) \ semCells d L) fun g => semVal g 0) := by
  unfold SparseCore.Cfg.ownSems0
  have hs : semCells d L ⊆ ownCells (V d (cV L) (jV L)) := fun g hg => by
    obtain ⟨k, -, rfl⟩ := Finset.mem_image.1 hg
    exact mem_ownCells.mpr ⟨rfl, (show ∀ k : Fin 8, (sem8 k).isScoped .scVector = true by decide) k⟩
  rw [SparseCore.bigSep_sdiff_split' hs, SparseCore.bigSep_image_of_injOn (fun a _ b _ e => sem8_inj (Prod.mk.inj e).2), bigSep_eight]
  rfl

theorem ownBufs_V :
    (ownBufs (V d (cV L) (jV L)) : sProp 𝕄)
      = iprop(((∃ f, (plV).view.loc (tile d L) ↦{fullShare} f) ∗ (∃ f, (ciV).view.loc (tile d L) ↦{fullShare} f)
          ∗ (∃ f, (cwV).view.loc (tile d L) ↦{fullShare} f) ∗ (∃ f, (obV).view.loc (tile d L) ↦{fullShare} f)
          ∗ (∃ f, (bxV).view.loc (tile d L) ↦{fullShare} f) ∗ (∃ f, (byV).view.loc (tile d L) ↦{fullShare} f)
          ∗ (∃ f, (biV).view.loc (tile d L) ↦{fullShare} f) ∗ (∃ f, (bwV).view.loc (tile d L) ↦{fullShare} f))
          ∗ bigSep (ownRefs (τ := τ) (.scVector (cV L) (jV L)) \ scrRefs L) fun b => iprop(∃ f, ((d, b) : Loc nD τ sig) ↦{fullShare} f)) := by
  unfold SparseCore.Cfg.ownBufs
  have hs : scrRefs L ⊆ ownRefs (τ := τ) (.scVector (cV L) (jV L)) := fun b hb => by
    obtain ⟨k, -, rfl⟩ := Finset.mem_image.1 hb
    refine SparseCore.Cfg.mem_ownRefs_of_owner (p := Proc.scVector (cV L) (jV L)) ?_
    match k with
    | 0 => rfl | 1 => rfl | 2 => rfl | 3 => rfl | 4 => rfl | 5 => rfl | 6 => rfl | 7 => rfl
  rw [SparseCore.bigSep_sdiff_split' hs, SparseCore.bigSep_image_of_injOn (fun a _ b _ e => scr_inj (Proc.devRef_injective _ e)), bigSep_eight]
  rfl

theorem pts_x (f : S19267584.Idx → F .f32) (q : PosShare TreeShare) : ((xV).view.loc (tile d L) ↦{q} f : sProp 𝕄) = xLoc d ↦{q} f := rfl
theorem pts_gx (f : S200704.Idx → F .f32) (q : PosShare TreeShare) : ((gxV).view.loc (tile d L) ↦{q} f : sProp 𝕄) = gxLoc d ↦{q} f := rfl
theorem pts_gy (f : S200704.Idx → F .f32) (q : PosShare TreeShare) : ((gyV).view.loc (tile d L) ↦{q} f : sProp 𝕄) = gyLoc d ↦{q} f := rfl
theorem pts_o (I : Finset S19267584.Idx) (f : S19267584.Idx → F .f32) : ((oV).view.loc (tile d L) ↦[I]{fullShare} f : sProp 𝕄) = oLoc d ↦[I]{fullShare} f := rfl
theorem pts_shI (I : Finset S2x100352.Idx) (q : PosShare TreeShare) (f : S2x100352.Idx → BitVec 32) :
    ((shI).view.loc (tile d L) ↦[I]{q} f : sProp 𝕄) = shILoc d (cV L) ↦[I]{q} f := rfl
theorem pts_shW (I : Finset S4x100352.Idx) (q : PosShare TreeShare) (f : S4x100352.Idx → F .f32) :
    ((shW).view.loc (tile d L) ↦[I]{q} f : sProp 𝕄) = shWLoc d (cV L) ↦[I]{q} f := rfl

/-- The seven trips done, the block holds the table. -/
theorem block_done {s y t : Nat} (hy : y / 6272 = s) (ht : t = 7) : y < s * 6272 + 896 * t := by omega

set_option maxHeartbeats 4000000 in
theorem tile_body (hF : (K (F := F)).Facts) (hx : ∀ k, Fit (nth (A d).gx k)) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit A d (cV L) (jV L) ∗ (tIn A d L ∗ shIn d (cV L) (L 1))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__sc_body L xV (Memref.isWhole_whole _) gxV (Memref.isWhole_whole _) gyV (Memref.isWhole_whole _) oV (Memref.isWhole_whole _)
            plV (Memref.isWhole_whole _) ciV (Memref.isWhole_whole _) cwV (Memref.isWhole_whole _) obV (Memref.isWhole_whole _)
            bxV (Memref.isWhole_whole _) byV (Memref.isWhole_whole _) biV (Memref.isWhole_whole _) bwV (Memref.isWhole_whole _)
            shI (Memref.isWhole_whole _) shW (Memref.isWhole_whole _)
            cc0_scoped0 cc0_scoped1 cc0_scoped2 cc0_scoped3 cc0_scoped4 cc0_scoped5 cc0_scoped6 cc0_scoped7)
          fun _ => iprop((tOut A d L ∗ shOut A d (cV L) (L 1) ∗ semVal (bcell d (cV L) (jV L)) 0)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨⟨⟨Hx, Hgx, Hgy⟩, %fo, Ho⟩, ⟨%fI, HI⟩, %fW, HW⟩, ⟨⟨Hpl, Hci, Hcw, Hob, Hbx, Hby, Hbi, Hbw⟩, Hbufs⟩,
    ⟨⟨Hs0, Hs1, Hs2, Hs3, Hs4, Hs5, Hs6, Hs7⟩, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (none : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (none : HIx 1) O from
    (K (F := F)).mayWaits_none (thr := V d (cV L) (jV L)) hO) $$ Hlv
  ihave Hx' := (Entails.of_eq (pts_x (F := F) d L _ _).symm) $$ Hx
  ihave Hgx' := (Entails.of_eq (pts_gx (F := F) d L _ _).symm) $$ Hgx
  ihave Hgy' := (Entails.of_eq (pts_gy (F := F) d L _ _).symm) $$ Hgy
  ihave Ho' := (Entails.of_eq (pts_o (F := F) d L _ _).symm) $$ Ho
  ihave HI' := (Entails.of_eq (pts_shI (F := F) d L _ _ _).symm) $$ HI
  ihave HW' := (Entails.of_eq (pts_shW (F := F) d L _ _ _).symm) $$ HW
  sl_exec
  sl_for (inv1 d L (A d).gx (A d).gy (qX L) (O + oxV d (cV L)) W) $$ [Hmw1 Hgx' Hgy' Hbx Hby Hbi Hbw HI' HW' Hs0 Hs1 Hs2 Hs3 HO]
  case region => exact fun t _ => trip1 d L _ _ _ _ _ t
  · delta inv1
    isplitl [Hmw1]; · iexact Hmw1
    isplitl [Hgx']; · iexact Hgx'
    isplitl [Hgy']; · iexact Hgy'
    isplitl [Hbx]; · iexact Hbx
    isplitl [Hby]; · iexact Hby
    isplitl [Hbi]; · iexact Hbi
    isplitl [Hbw]; · iexact Hbw
    isplitl [HI']
    · iexists fI; isplitr; swap; · iexact HI'
      ipureintro
      exact fun y hy h => absurd (Finset.mem_filter.1 hy).2 (by omega)
    isplitl [HW']
    · iexists fW; isplitr; swap; · iexact HW'
      ipureintro
      exact fun y hy h => absurd (Finset.mem_filter.1 hy).2 (by omega)
    isplitl [Hs0]; · iexact Hs0
    isplitl [Hs1]; · iexact Hs1
    isplitl [Hs2]; · iexact Hs2
    isplitl [Hs3]; · iexact Hs3
    iexists W; isplitr; · ipureintro; exact fun p hp => .inl hp
    iexact HO
  iintro %_ H1
  delta inv1
  icases H1 with ⟨-, Hgx, Hgy, Hbx, Hby, Hbi, Hbw, ⟨%gI, %hI, HI⟩, ⟨%gW, %hW, HW⟩, Hs0, Hs1, Hs2, Hs3, %W1, %hW1, HO⟩
  ihave HI' := (Entails.of_eq ((pointsTo_congr (f := gI) (g := tblI (A d).gx (A d).gy (cV L).val) fun y hy => hI y hy (block_done (Finset.mem_filter.1 hy).2 trips1)).trans (pts_shI (F := F) d L _ _ _))) $$ HI
  ihave HW' := (Entails.of_eq ((pointsTo_congr (f := gW) (g := tblW (A d).gx (A d).gy (cV L).val) fun y hy => hW y hy (block_done (Finset.mem_filter.1 hy).2 trips1)).trans (pts_shW (F := F) d L _ _ _))) $$ HW
  ihave Hpays := (pays_intro A d L) $$ [HI' HW']
  · isplitl [HI']; · iexact HI'
    iexact HW'
  iapply (SparseCore.wp_subcoreBarrier 𝒱₀ none EB (bRd A) d (sc := cV L) (i := jV L) sc_bar0 (grid0.bound 1) hsub0 (L 1) rfl κ (fun _ => 0) (jV L).val
      (fun j => bRd_mem₀ A d _ _ _) (fun _ => rfl) (bRd_expect A d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd A) (g := bcell d (cV L) (jV L)) (Set.mem_univ (κ _)) (fun h => h) (bRd_duties_succ A _)) $$ [Hat] with Hbar
  · isplitr
    · iapply (SparseCore.ent (bigSep_elim (Φ := fun j : Fin (grid0.bound 1) =>
        (cellInv EB (bRd A) (κ (bcell d (cV L) (j.castLE hsub0))) (bcell d (cV L) (j.castLE hsub0)) : sProp 𝕄)) (Finset.mem_univ (L 1)))); iexact Hinv
    · iexact Hat
  ihave Hsh := (pays_elim A d L) $$ Hgot
  icases Hsh with ⟨HI, HW⟩
  ihave HI' := (Entails.of_eq (pts_shI (F := F) d L _ _ _).symm) $$ HI
  ihave HW' := (Entails.of_eq (pts_shW (F := F) d L _ _ _).symm) $$ HW
  sl_exec
  sl_for (inv3 d L (A d).x (A d).gx (A d).gy (qX L) (qS (L 1)) O (insert (.reg sc_bar0, some 0) W1)) $$ [Hmw2 Hx' HI' HW' Hpl Hci Hcw Hob Ho' Hs4 Hs5 Hs6 Hs7 HO]
  case region => exact fun t _ => trip3 d L _ _ _ hx _ _ _ _ _ _ t
  · delta inv3
    isplitl [Hmw2]; · iexact Hmw2
    isplitl [Hx']; · iexact Hx'
    isplitl [HI']; · iexact HI'
    isplitl [HW']; · iexact HW'
    isplitl [Hpl]; · iexact Hpl
    isplitl [Hci]; · iexact Hci
    isplitl [Hcw]; · iexact Hcw
    isplitl [Hob]; · iexact Hob
    isplitl [Ho']
    · iexists fo; isplitr; swap; · iexact Ho'
      ipureintro; exact out_none L _ _ _ fo
    isplitl [Hs4]; · iexact Hs4
    isplitl [Hs5]; · iexact Hs5
    isplitl [Hs6]; · iexact Hs6
    isplitl [Hs7]; · iexact Hs7
    iexists _; isplitr; swap; · iexact HO
    ipureintro; exact fun p hp => .inl hp
  iintro %_ H3
  delta inv3
  icases H3 with ⟨-, Hx, HI, HW, Hpl, Hci, Hcw, Hob, ⟨%fr, %hr, Ho⟩, Hs4, Hs5, Hs6, Hs7, %W3, %hW3, HO⟩
  sl_exec
  sl_step
  isplitl [Hx Hgx Hgy Ho HI HW Hbar]
  · isplitl [Hx Hgx Hgy Ho]
    · isplitl [Hx Hgx Hgy]
      · isplitl [Hx]; · iapply (Entails.of_eq (pts_x (F := F) d L _ _)); iexact Hx
        isplitl [Hgx]; · iapply (Entails.of_eq (pts_gx (F := F) d L _ _)); iexact Hgx
        iapply (Entails.of_eq (pts_gy (F := F) d L _ _)); iexact Hgy
      iapply (Entails.of_eq ((pointsTo_congr (f := fr) (g := (A d).out) fun y hy => out_all L _ _ _ fr hr y hy).trans (pts_o (F := F) d L _ _))); iexact Ho
    isplitl [HI HW]
    · isplitl [HI]; · iapply (Entails.of_eq (pts_shI (F := F) d L _ _ _)); iexact HI
      iapply (Entails.of_eq (pts_shW (F := F) d L _ _ _)); iexact HW
    iexact Hbar
  isplitl [Hpl Hci Hcw Hob Hbx Hby Hbi Hbw Hbufs]
  · isplitr [Hbufs]; swap; · iexact Hbufs
    isplitl [Hpl]; · iexact Hpl
    isplitl [Hci]; · iexact Hci
    isplitl [Hcw]; · iexact Hcw
    isplitl [Hob]; · iexact Hob
    isplitl [Hbx]; · iexact Hbx
    isplitl [Hby]; · iexact Hby
    isplitl [Hbi]; · iexact Hbi
    iexact Hbw
  isplitl [Hs0 Hs1 Hs2 Hs3 Hs4 Hs5 Hs6 Hs7 Hsems]
  · isplitr [Hsems]; swap; · iexact Hsems
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  iexists _; isplitr
  swap; · iexact HO
  ipureintro; intro p hp
  rcases hW3 p hp with hp | hp
  · rcases Finset.mem_insert.mp hp with hp | hp; · exact .inr (.inr (hp ▸ rfl))
    rcases hW1 p hp with hp | hp; · exact .inl hp
    exact .inr (.inl hp)
  · exact .inr (.inl hp)

end Tile

end Cert.KernelIdeal.Tile

end

end
-- ==== Proof.ILaunch.lean ====
module

public import proofs.«01_k».proof.Proof.ITile

/-!
# The launch

What the call's handshakes carry (`P`), a tile's obligation, how a sequencer splits its SparseCore's shared tables
among its tiles and gets them back, and the ghost state of the thirty-two barrier cells.
-/

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Vals

variable {F : FTy → Type} [FloatOps F]

local notation "𝕄" => MT nD τ sig (HIx 1) (Elt F) ℕ UU ℕ

variable (A : Dev nD → Args F)

/-! ## What the handshakes carry -/

theorem nCore_bound : (K (F := F)).nCore 0 = grid0.bound 0 := rfl
theorem nSub_bound' : (K (F := F)).nSub 0 = grid0.bound 1 := rfl

/-- The grid coordinates of tile `i` of SparseCore `c`. -/
def crd (c : Fin (grid0.bound 0)) (i : Fin (grid0.bound 1)) : grid0.Coords :=
  fun | 0 => c | 1 => i | ⟨_ + 2, h⟩ => absurd h (Nat.not_lt.2 (Nat.le_add_left _ _))
abbrev gc (c : Fin ((K (F := F)).nCore 0)) : Fin (grid0.bound 0) := Fin.cast nCore_bound c
abbrev gs (i : Fin ((K (F := F)).nSub 0)) : Fin (grid0.bound 1) := Fin.cast nSub_bound' i
abbrev coreOf (c : Fin ((K (F := F)).nCore 0)) : Fin τ.nSC := (K (F := F)).core 0 c

/-- The barrier semaphores of SparseCore `c`'s tasks, at zero. -/
abbrev bars (d : Dev nD) (c : Fin ((K (F := F)).nCore 0)) : sProp 𝕄 :=
  bigSep Finset.univ fun i : Fin ((K (F := F)).nSub 0) => semVal (bcell d (coreOf c) ((K (F := F)).sub 0 i)) 0
/-- All that the tasks of SparseCore `c` are brought by the call, and what they leave. -/
abbrev ins (d : Dev nD) (c : Fin (grid0.bound 0)) : sProp 𝕄 := bigSep Finset.univ fun i : Fin (grid0.bound 1) => tIn A d (crd c i)
abbrev outs (d : Dev nD) (c : Fin (grid0.bound 0)) : sProp 𝕄 := bigSep Finset.univ fun i : Fin (grid0.bound 1) => tOut A d (crd c i)

set_option backward.proofsInPublic true in
/-- The call brings each SparseCore what its tasks take; a task takes that and its block of the shared tables, and
    leaves its part of the result, its share of the filled tables and its barrier semaphore, closed, at zero. -/
def P : (K (F := F)).Pay (nD := nD) (Val := Elt F) (Name := ℕ) (U := UU) where
  st := fun q d c => match q with | 0 => ins A d (gc c)
  dn := fun q d c => match q with | 0 => iprop(outs A d (gc c) ∗ bars d c)
  go := fun q d c i => match q with | 0 => iprop(tIn A d (crd (gc c) (gs i)) ∗ shIn d (coreOf c) (gs i))
  td := fun q d c i => match q with
    | 0 => iprop(tOut A d (crd (gc c) (gs i)) ∗ shOut A d (coreOf c) (gs i) ∗ semVal (bcell d (coreOf c) ((K (F := F)).sub 0 i)) 0)
  x := fun _ thr => match thr with
    | (d, .scVector c i) => bkit A d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

set_option synthInstance.maxHeartbeats 400000 in
instance P_storable : (P A).IsStorable where
  st q d c := match q with
    | 0 => (inferInstance : BI.Storable (upEmb : UEmb _ 𝕄) (ins A d (gc c)))
  dn q d c := match q with
    | 0 => (inferInstance : BI.Storable (upEmb : UEmb _ 𝕄) iprop(outs A d (gc c) ∗ bars d c))
  go q d c i := match q with
    | 0 => (inferInstance : BI.Storable (upEmb : UEmb _ 𝕄) iprop(tIn A d (crd (gc c) (gs i)) ∗ shIn d (coreOf c) (gs i)))
  td q d c i := match q with
    | 0 => (inferInstance : BI.Storable (upEmb : UEmb _ 𝕄) iprop(tOut A d (crd (gc c) (gs i)) ∗ shOut A d (coreOf c) (gs i) ∗ semVal _ 0))

/-! ## The obligation of a task -/

theorem defs₀_vector (c : Fin τ.nSC) (s : Fin τ.nSub) :
    defs₀ (F := F) (.scVector c s) 0 ()
      = SparseCore.onTile hcore0 hsub0 (fun c s => cc0__sc_body (crd c s)
          xV (Memref.isWhole_whole _) gxV (Memref.isWhole_whole _) gyV (Memref.isWhole_whole _) oV (Memref.isWhole_whole _)
            plV (Memref.isWhole_whole _) ciV (Memref.isWhole_whole _) cwV (Memref.isWhole_whole _) obV (Memref.isWhole_whole _)
            bxV (Memref.isWhole_whole _) byV (Memref.isWhole_whole _) biV (Memref.isWhole_whole _) bwV (Memref.isWhole_whole _)
            shI (Memref.isWhole_whole _) shW (Memref.isWhole_whole _)
            cc0_scoped0 cc0_scoped1 cc0_scoped2 cc0_scoped3 cc0_scoped4 cc0_scoped5 cc0_scoped6 cc0_scoped7) ⟨⟩ c s := rfl

set_option maxRecDepth 16384 in
theorem tileObl (hF : (K (F := F)).Facts) (hx : ∀ d k, Fit (nth (A d).gx k)) : (K (F := F)).TileObl (D (F := F)) 𝒱 (P A) v₀ 0 := by
  intro d c i O W hO hOlev _
  have hci : ((K (F := F)).core 0 c).val < grid0.bound 0 ∧ ((K (F := F)).sub 0 i).val < grid0.bound 1 := ⟨c.isLt, i.isLt⟩
  rw [show (P A).ox 0 (V d ((K (F := F)).core 0 c) ((K (F := F)).sub 0 i)) = oxV d ((K (F := F)).core 0 c) from rfl,
    show (P A).x 0 (V d ((K (F := F)).core 0 c) ((K (F := F)).sub 0 i)) = bkit A d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A d (crd ⟨_, hci.1⟩ ⟨_, hci.2⟩) hF (hx d) O W hO hOlev

/-! ## The split of a SparseCore's shared tables -/

abbrev shRefs (c : Fin τ.nSC) : Finset (DevRef τ sig) := {shIRef c, shWRef c}

theorem ownBufs_S (d : Dev nD) (c : Fin τ.nSC) :
    (ownBufs (S d c) : sProp 𝕄)
      = iprop(((∃ f, shILoc d c ↦{fullShare} f) ∗ (∃ f, shWLoc d c ↦{fullShare} f))
          ∗ bigSep (ownRefs (τ := τ) (.scScalar c) \ shRefs c) fun b => iprop(∃ f, ((d, b) : Loc nD τ sig) ↦{fullShare} f)) := by
  unfold SparseCore.Cfg.ownBufs
  have hs : shRefs c ⊆ ownRefs (τ := τ) (sig := sig) (.scScalar c) := fun b hb => by
    rcases Finset.mem_insert.1 hb with rfl | hb
    · exact (mem_ownRefs (p := Proc.scScalar c) (b := shIRef c)).mpr rfl
    · obtain rfl := Finset.mem_singleton.1 hb
      exact (mem_ownRefs (p := Proc.scScalar c) (b := shWRef c)).mpr rfl
  have hne : shIRef c ∉ ({shWRef c} : Finset (DevRef τ sig)) := fun h => by
    have := Finset.mem_singleton.1 h
    injection this with h1 h2
    exact absurd (congrArg Fin.val h2) (by decide)
  rw [SparseCore.bigSep_sdiff_split' hs, SparseCore.bigSep_insert' hne, bigSep_singleton]

/-- The filled tables, every tile's share, whole again. -/
theorem shOut_join (d : Dev nD) (c : Fin τ.nSC) :
    (bigSep Finset.univ fun j : Fin (grid0.bound 1) => shOut A d c j)
      ⊢ (iprop((∃ f, shILoc d c ↦{fullShare} f) ∗ ∃ f, shWLoc d c ↦{fullShare} f) : sProp 𝕄) := by
  rw [bigSep_sep']
  unfold qS
  rw [← Transfers.pointsTo_deal Finset.univ ⟨(⟨0, by decide⟩ : Fin (grid0.bound 1)), Finset.mem_univ _⟩ fullShare,
    ← Transfers.pointsTo_deal Finset.univ ⟨(⟨0, by decide⟩ : Fin (grid0.bound 1)), Finset.mem_univ _⟩ fullShare]
  iintro ⟨HI, HW⟩
  isplitl [HI]; · iexists _; iexact HI
  iexists _; iexact HW

theorem shIn_split (d : Dev nD) (c : Fin τ.nSC) :
    (iprop((∃ f, shILoc d c ↦{fullShare} f) ∗ ∃ f, shWLoc d c ↦{fullShare} f) : sProp 𝕄)
      ⊢ bigSep Finset.univ fun j : Fin (grid0.bound 1) => shIn d c j := by
  rw [bigSep_sep']
  iintro ⟨⟨%f, HI⟩, %g, HW⟩
  isplitl [HI]
  · ihave H := ((Entails.of_eq (shI_blocks d c fullShare f)).trans (SparseCore.ent (bigSep_mono
      (Φ := fun a : Fin (grid0.bound 1) => (shILoc d c ↦[cols 2 a.val]{fullShare} f : sProp 𝕄))
      (Ψ := fun a => iprop(∃ f, shILoc d c ↦[cols 2 a.val]{fullShare} f))
      fun a _ => BI.BIClass.exists_intro (Φ := fun f => (shILoc d c ↦[cols 2 a.val]{fullShare} f : sProp 𝕄)) f))) $$ HI
    iexact H
  · ihave H := ((Entails.of_eq (shW_blocks d c fullShare g)).trans (SparseCore.ent (bigSep_mono
      (Φ := fun a : Fin (grid0.bound 1) => (shWLoc d c ↦[cols 4 a.val]{fullShare} g : sProp 𝕄))
      (Ψ := fun a => iprop(∃ f, shWLoc d c ↦[cols 4 a.val]{fullShare} f))
      fun a _ => BI.BIClass.exists_intro (Φ := fun f => (shWLoc d c ↦[cols 4 a.val]{fullShare} f : sProp 𝕄)) g))) $$ HW
    iexact H

theorem bigSep_gs (Φ : Fin (grid0.bound 1) → sProp 𝕄) :
    (bigSep Finset.univ fun i : Fin ((K (F := F)).nSub 0) => Φ (gs i)) = bigSep Finset.univ Φ :=
  bigSep_congr fun _ _ => congrArg Φ (Fin.ext rfl)

theorem vecSplit : (K (F := F)).VecSplit (P A) 0 := by
  intro d c
  show iprop(ins A d (gc c) ∗ ownBufs (S d (coreOf c))) ⊢ |={Set.univ}=> iprop(
      (bigSep Finset.univ fun i : Fin ((K (F := F)).nSub 0) => iprop(tIn A d (crd (gc c) (gs i)) ∗ shIn d (coreOf c) (gs i)))
      ∗ ((bigSep Finset.univ fun i : Fin ((K (F := F)).nSub 0) => iprop(tOut A d (crd (gc c) (gs i)) ∗ shOut A d (coreOf c) (gs i)
            ∗ semVal (bcell d (coreOf c) ((K (F := F)).sub 0 i)) 0))
          -∗ iprop(iprop(outs A d (gc c) ∗ bars d c) ∗ ownBufs (S d (coreOf c)))))
  rw [bigSep_sep' _ (fun i : Fin ((K (F := F)).nSub 0) => tIn A d (crd (gc c) (gs i))),
    bigSep_sep' _ (fun i : Fin ((K (F := F)).nSub 0) => tOut A d (crd (gc c) (gs i))),
    bigSep_sep' _ (fun i : Fin ((K (F := F)).nSub 0) => shOut A d (coreOf c) (gs i)), bigSep_gs (F := F) (fun i => tIn A d (crd (gc c) i)), bigSep_gs (F := F) (fun i => shIn d (coreOf c) i),
    bigSep_gs (F := F) (fun i => tOut A d (crd (gc c) i)), bigSep_gs (F := F) (fun i => shOut A d (coreOf c) i), ownBufs_S]
  iintro ⟨Hin, Hsh, Hrest⟩; imodintro
  isplitl [Hin Hsh]
  · isplitl [Hin]; · iexact Hin
    iapply (shIn_split d (coreOf c)); iexact Hsh
  iintro ⟨Hout, Hsh, Hbars⟩
  isplitl [Hout Hbars]
  · isplitl [Hout] <;> iassumption
  isplitl [Hsh]; · iapply (shOut_join A d (coreOf c)); iexact Hsh
  iexact Hrest

/-! ## The barrier cells at the launch -/

/-- A tile of the machine; the grid runs a task on every one of them. -/
abbrev Place : Type := Dev nD × Fin τ.nSC × Fin τ.nSub
abbrev pcell (x : Place) : GSem nD τ sig := bcell x.1 x.2.1 x.2.2
def bCells : Finset (GSem nD τ sig) := Finset.univ.image pcell
/-- Each tile's token in the cell of each tile of its SparseCore. -/
def bToks : Finset (GSem nD τ sig × ℕ × ℕ) :=
  (Finset.univ ×ˢ Finset.univ).image fun x : Place × Fin (grid0.bound 1) => (bcell x.1.1 x.1.2.1 (x.2.castLE hsub0), 0, x.1.2.2.val)
def u₀ : UU := (initOf (K (F := F)).hsCells (K (F := F)).hsToks, (initOf bCells bToks, 1))

theorem pcell_injective : Function.Injective (pcell : Place → GSem nD τ sig) := fun a b e => by
  obtain ⟨h1, h2⟩ := Prod.mk.inj (Prod.mk.inj e).1; obtain ⟨h3, h4⟩ := Proc.scVector.inj h2
  exact Prod.ext h1 (Prod.ext h3 h4)

theorem bCells_eq (Φ : GSem nD τ sig → sProp 𝕄) : bigSep bCells Φ = bigSep Finset.univ fun x : Place => Φ (pcell x) := by
  unfold bCells; exact SparseCore.bigSep_image_of_injOn (fun a _ b _ e => pcell_injective e) Φ

theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The barrier semaphores, at zero, are among the free ones. -/
theorem sems_b : ((K (F := F)).freeOn (· ∈ bCells) : sProp 𝕄) ⊢ bigSep bCells fun g => semVal g 0 := by
  rw [bCells_eq]
  unfold SparseCore.Cfg.freeOn
  refine sep_elim_right.trans (bigSep_mono fun x _ => ?_)
  exact bigSep_elim (Φ := fun sm : SemLoc sig => (semVal (V x.1 x.2.1 x.2.2, sm) 0 : sProp 𝕄)) (Finset.mem_filter.mpr
    ⟨Finset.mem_erase.mpr ⟨fun h => sc_bar0_ne_go (SemLoc.reg.inj h), Finset.mem_filter.mpr ⟨Finset.mem_univ _, by decide⟩⟩,
      Finset.mem_image_of_mem pcell (Finset.mem_univ x)⟩)

theorem invs_b : iprop((bigSep bCells fun g => (semVal g 0 : sProp 𝕄)) ∗ bigSep bCells fun g => roundState EB (bRd A) g 0)
    ⊢ |={Set.univ}=> iprop(∃ κ : GSem nD τ sig → ℕ, bigSep bCells fun g => cellInv EB (bRd A) (κ g) g) := by
  refine (Rounds.bodies_intro EB (bRd A) bCells).trans ((inv_alloc_family bCells (Rounds.body EB (bRd A)) ∅ (E := Set.univ)).trans ?_)
  iintro H
  imod H with ⟨%κ, -, Hinv⟩
  imodintro; iexists κ; iexact Hinv

theorem units_sum (g : GSem nD τ sig) (ι : HIx 1) (n : ℕ) : ∑ _ : Fin n, tallyAt g ι 1 = (tallyAt g ι n : CellTallies nD τ sig (HIx 1)) := by
  induction n with
  | zero => rw [Fin.sum_univ_zero, tallyAt_zero]
  | succ n ih => rw [Fin.sum_univ_castSucc, ih, tallyAt_add]

/-- The credit for the tiles' arrivals, regrouped: each tile the units of its own cell. -/
theorem creds_b : ((P A).oxCred : sProp 𝕄) ⊢ bigSep Finset.univ fun x : Place => cred (tallyAt (pcell x) (some 0) (grid0.bound 1)) := by
  unfold SparseCore.Cfg.Pay.oxCred
  rw [SparseCore.Cfg.bigSep_threads (fun thr : Thread nD τ => (cred ((P A).oxFrom 0 thr) : sProp 𝕄))]
  refine sep_elim_right.trans (sep_elim_right.trans ?_)
  rw [bigSep_univ_prod, bigSep_univ_prod (fun x : Place => (cred (tallyAt (pcell x) (some 0) (grid0.bound 1)) : sProp 𝕄))]
  refine bigSep_mono fun d _ => ?_
  rw [bigSep_univ_prod, bigSep_univ_prod (fun ci : Fin τ.nSC × Fin τ.nSub => (cred (tallyAt (pcell (d, ci)) (some 0) (grid0.bound 1)) : sProp 𝕄))]
  refine bigSep_mono fun c _ => ?_
  have hox : ∀ i, (P A).oxFrom 0 (V d c i) = oxV d c := fun i => by
    rw [show (0 : ℕ) = (0 : Fin 1).val from rfl, (P A).oxFrom_step, (P A).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, units_sum]; rfl

theorem toks_eq : (bigSep bToks fun x => (dutyTok EB x.1 x.2.1 x.2.2 : sProp 𝕄))
    = bigSep Finset.univ fun x : Place => bigSep Finset.univ fun j : Fin (grid0.bound 1) => dutyTok EB (bcell x.1 x.2.1 (j.castLE hsub0)) 0 x.2.2.val := by
  unfold bToks
  rw [SparseCore.bigSep_image_of_injOn, SparseCore.bigSep_product]
  rintro ⟨⟨d, c, i⟩, j⟩ - ⟨⟨d', c', i'⟩, j'⟩ - e
  obtain ⟨e1, e2⟩ := Prod.mk.inj e
  obtain ⟨rfl, h⟩ := Prod.mk.inj (Prod.mk.inj e1).1
  obtain ⟨rfl, hj⟩ := Proc.scVector.inj h
  obtain rfl : j = j' := Fin.ext (congrArg Fin.val hj)
  obtain rfl : i = i' := Fin.ext (Prod.mk.inj e2).2
  rfl

/-- What every tile is handed alike, -/
abbrev common : sProp 𝕄 :=
  iprop((∃ κ : GSem nD τ sig → ℕ, bigSep Finset.univ fun x : Place => cellInv EB (bRd A) (κ (pcell x)) (pcell x))
    ∗ bigSep Finset.univ fun x : Place => reached EB (pcell x) 0)
/-- and what of its own. -/
abbrev own1 (x : Place) : sProp 𝕄 :=
  iprop(atPos EB (pcell x) 0 ∅ 0
    ∗ (bigSep Finset.univ fun j : Fin (grid0.bound 1) => dutyTok EB (bcell x.1 x.2.1 (j.castLE hsub0)) 0 x.2.2.val)
    ∗ cred (tallyAt (pcell x) (some 0) (grid0.bound 1)))

theorem emps {I : Type} (s : Finset I) : (bigSep s fun _ => iprop(emp)) = (iprop(emp) : sProp 𝕄) := bigSep_emp_const s

/-- A persistent resource goes to every conjunct. -/
theorem bigSep_frame_mono {I : Type} [DecidableEq I] {R : sProp 𝕄} [BI.Persistent R] (s : Finset I) {Φ Ψ : I → sProp 𝕄}
    (h : ∀ i, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a); isplitr; · iexact HR
      iexact H1
    · iapply ih; isplitr; · iexact HR
      iexact H2

/-- A family over the places, persistent, gives its members over one SparseCore's tiles. -/
theorem of_places (Φ : Place → sProp 𝕄) [BI.Persistent (bigSep Finset.univ Φ)] (d : Dev nD) (c : Fin τ.nSC) :
    bigSep Finset.univ Φ ⊢ bigSep Finset.univ fun j : Fin (grid0.bound 1) => Φ (d, c, j.castLE hsub0) := by
  iintro #H
  iapply (bigSep_frame_mono (R := bigSep Finset.univ Φ) (Finset.univ : Finset (Fin (grid0.bound 1))) (Φ := fun _ => iprop(emp)) fun j =>
    sep_elim_left.trans (bigSep_elim (Φ := Φ) (Finset.mem_univ (d, c, j.castLE hsub0))))
  isplitl; · iexact H
  rw [emps]; iempintro

theorem kit_intro (x : Place) : iprop(common A ∗ own1 x) ⊢ (bkit A x.1 x.2.1 x.2.2 : sProp 𝕄) := by
  obtain ⟨d, c, i⟩ := x
  iintro ⟨⟨⟨%κ, #Hinv⟩, #Hr⟩, Hat, Htok, Hcred⟩
  unfold bkit
  isplitr
  · iexists κ
    iapply (SparseCore.ent (of_places (fun x : Place => cellInv EB (bRd A) (κ (pcell x)) (pcell x)) d c)); iexact Hinv
  isplitl [Htok]; · iexact Htok
  isplitr
  · iapply (SparseCore.ent (of_places (F := F) (fun x : Place => reached EB (pcell x) 0) d c)); iexact Hr
  isplitl [Hat]; · iexact Hat
  iexact Hcred

theorem Px_T (d : Dev nD) : (bigSep Finset.univ fun q : Fin 1 => (P A).x q (SparseCore.T d)) = iprop(emp) :=
  bigSep_univ_of_subsingleton (0 : Fin 1)
theorem Px_S (d : Dev nD) (c : Fin τ.nSC) : (bigSep Finset.univ fun q : Fin 1 => (P A).x q (S d c)) = iprop(emp) :=
  bigSep_univ_of_subsingleton (0 : Fin 1)
theorem Px_V (d : Dev nD) (c : Fin τ.nSC) (i : Fin τ.nSub) : (bigSep Finset.univ fun q : Fin 1 => (P A).x q (V d c i)) = bkit A d c i :=
  bigSep_univ_of_subsingleton (0 : Fin 1)

theorem kits_deal :
    iprop(common A ∗ bigSep Finset.univ own1)
      ⊢ (bigSep Finset.univ fun thr : Thread nD τ => bigSep Finset.univ fun q : Fin 1 => (P A).x q thr : sProp 𝕄) := by
  rw [SparseCore.Cfg.bigSep_threads (fun thr : Thread nD τ => bigSep Finset.univ fun q : Fin 1 => (P A).x q thr)]
  simp only [Px_T, Px_S, Px_V, emps]
  iintro H
  isplitr; · iempintro
  isplitr; · iempintro
  iapply (bigSep_frame_mono (R := common A) Finset.univ (Φ := own1) (Ψ := fun x : Place => bkit A x.1 x.2.1 x.2.2) fun x => kit_intro A x)
  iexact H

theorem hu₀ : iprop(ownU (u₀ (F := F)) ∗ (P A).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P A).x q thr) : sProp 𝕄) := by
  unfold u₀
  iintro ⟨Hu, Hcred, Hfree⟩
  ihave H := (ownU_split _ _) $$ Hu
  icases H with ⟨HH, HB⟩
  imod (Rounds.fund EB (bRd A) bCells bToks) $$ HB with ⟨Hst, #Hr, Hat, Htok⟩
  ihave Hsems := (sems_b (F := F)) $$ Hfree
  imod (invs_b A) $$ [Hsems Hst] with ⟨%κ, #Hinv⟩
  · isplitl [Hsems] <;> iassumption
  ihave Hcred' := (creds_b A) $$ Hcred
  ihave Hinv' := (Entails.of_eq (bCells_eq (F := F) fun g => cellInv EB (bRd A) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [emps]; iempintro
  iapply (kits_deal A)
  isplitr
  · isplitl; · iexists κ; iexact Hinv'
    iexact Hr'
  unfold own1
  rw [bigSep_sep', bigSep_sep']
  isplitl [Hat']; · iexact Hat'
  isplitl [Htok']; · iexact Htok'
  iexact Hcred'

/-! ## The operands dealt to the tiles, and the result joined -/

/-- An operand every tile reads, dealt. -/
theorem deal2 (ℓ : Loc nD τ sig) (f : Buf (Elt F) ℓ) :
    (ℓ ↦{fullShare} f : sProp 𝕄) = bigSep Finset.univ fun c : Fin (grid0.bound 0) => bigSep Finset.univ fun i : Fin (grid0.bound 1) => ℓ ↦{qX (crd c i)} f := by
  rw [Transfers.pointsTo_deal Finset.univ ⟨(⟨0, by decide⟩ : Fin (grid0.bound 0)), Finset.mem_univ _⟩ fullShare]
  exact bigSep_congr fun c _ => Transfers.pointsTo_deal Finset.univ ⟨(⟨0, by decide⟩ : Fin (grid0.bound 1)), Finset.mem_univ _⟩ _

theorem mem_mine (c : Fin (grid0.bound 0)) (i : Fin (grid0.bound 1)) (y : S19267584.Idx) :
    y ∈ mine (crd c i) ↔ (y 0).val / 50176 / 192 = c.val ∧ (y 0).val / 50176 % 96 / 6 = i.val := by
  unfold mine; rw [Finset.mem_filter]; exact and_iff_right (Finset.mem_univ _)

theorem parts_disjoint : ∀ a ∈ (Finset.univ : Finset (Fin (grid0.bound 0) × Fin (grid0.bound 1))), ∀ b ∈ (Finset.univ : Finset (Fin (grid0.bound 0) × Fin (grid0.bound 1))),
    a ≠ b → Disjoint (mine (crd a.1 a.2)) (mine (crd b.1 b.2)) := by
  intro a _ b _ h
  rw [Finset.disjoint_left]
  intro y h1 h2
  rw [mem_mine] at h1 h2
  exact h (Prod.ext (Fin.ext (h1.1.symm.trans h2.1)) (Fin.ext (h1.2.symm.trans h2.2)))
theorem part_lt {y : Nat} (h : y < 19267584) : y / 50176 / 192 < 2 ∧ y / 50176 % 96 / 6 < 16 := by omega
theorem parts_cover : (Finset.univ : Finset (Fin (grid0.bound 0) × Fin (grid0.bound 1))).biUnion (fun a => mine (crd a.1 a.2)) = Finset.univ := by
  refine Finset.eq_univ_of_forall fun y => Finset.mem_biUnion.2 ?_
  have h := part_lt (show (y 0).val < 19267584 from (y 0).isLt)
  exact ⟨(⟨_, h.1⟩, ⟨_, h.2⟩), Finset.mem_univ _, (mem_mine _ _ y).2 ⟨rfl, rfl⟩⟩

theorem out_parts (d : Dev nD) (f : S19267584.Idx → F .f32) :
    (oLoc d ↦{fullShare} f : sProp 𝕄)
      = bigSep Finset.univ fun c : Fin (grid0.bound 0) => bigSep Finset.univ fun i : Fin (grid0.bound 1) => oLoc d ↦[mine (crd c i)]{fullShare} f := by
  rw [← bigSep_univ_prod (fun a : Fin (grid0.bound 0) × Fin (grid0.bound 1) => (oLoc d ↦[mine (crd a.1 a.2)]{fullShare} f : sProp 𝕄)),
    ← pointsTo_biUnion Finset.univ (ℓ := oLoc d) (fun a : Fin (grid0.bound 0) × Fin (grid0.bound 1) => mine (crd a.1 a.2)) parts_disjoint, parts_cover]; try rfl

theorem tIn_intro (d : Dev nD) (L : grid0.Coords) (f : S19267584.Idx → F .f32) :
    iprop((xLoc d ↦{qX L} (A d).x) ∗ (gxLoc d ↦{qX L} (A d).gx) ∗ (gyLoc d ↦{qX L} (A d).gy) ∗ oLoc d ↦[mine L]{fullShare} f) ⊢ (tIn A d L : sProp 𝕄) := by
  iintro ⟨Hx, Hgx, Hgy, Ho⟩
  isplitl [Hx Hgx Hgy]
  · isplitl [Hx]; · iexact Hx
    isplitl [Hgx] <;> iassumption
  iexists f; iexact Ho
theorem tOut_elim (d : Dev nD) (L : grid0.Coords) :
    (tOut A d L : sProp 𝕄) ⊢ iprop((xLoc d ↦{qX L} (A d).x) ∗ (gxLoc d ↦{qX L} (A d).gx) ∗ (gyLoc d ↦{qX L} (A d).gy) ∗ oLoc d ↦[mine L]{fullShare} (A d).out) := by
  iintro ⟨⟨Hx, Hgx, Hgy⟩, Ho⟩
  isplitl [Hx]; · iexact Hx
  isplitl [Hgx]; · iexact Hgx
  isplitl [Hgy] <;> iassumption

theorem ins_split (d : Dev nD) (f : S19267584.Idx → F .f32) :
    iprop((xLoc d ↦{fullShare} (A d).x) ∗ (gxLoc d ↦{fullShare} (A d).gx) ∗ (gyLoc d ↦{fullShare} (A d).gy) ∗ oLoc d ↦{fullShare} f)
      ⊢ (bigSep Finset.univ fun c : Fin (grid0.bound 0) => ins A d c : sProp 𝕄) := by
  rw [deal2 (xLoc d), deal2 (gxLoc d), deal2 (gyLoc d), out_parts, ← bigSep_sep', ← bigSep_sep', ← bigSep_sep']
  refine bigSep_mono fun c _ => ?_
  rw [← bigSep_sep', ← bigSep_sep', ← bigSep_sep']
  refine bigSep_mono fun i _ => tIn_intro A d (crd c i) f

theorem outs_join (d : Dev nD) :
    (bigSep Finset.univ fun c : Fin (grid0.bound 0) => outs A d c : sProp 𝕄)
      ⊢ iprop((xLoc d ↦{fullShare} (A d).x) ∗ (gxLoc d ↦{fullShare} (A d).gx) ∗ (gyLoc d ↦{fullShare} (A d).gy) ∗ oLoc d ↦{fullShare} (A d).out) := by
  rw [deal2 (xLoc d), deal2 (gxLoc d), deal2 (gyLoc d), out_parts, ← bigSep_sep', ← bigSep_sep', ← bigSep_sep']
  refine bigSep_mono fun c _ => ?_
  rw [← bigSep_sep', ← bigSep_sep', ← bigSep_sep']
  refine bigSep_mono fun i _ => tOut_elim A d (crd c i)

end Cert.KernelIdeal.Tile

end

end
-- ==== Proof.IRun.lean ====
module

public import proofs.«01_k».proof.Proof.IHost
public import proofs.«01_k».proof.Proof.ILaunch

/-!
# The program's run

`main` on the TensorCore: the host operations over all of its arrays, the call from the four flat operands, the last
reshape. From any memory whose coordinates fit, the whole program runs without fault, leaves its arguments, and its
result holds the blend at every place.
-/

@[expose] public section

noncomputable section

namespace Cert.KernelIdeal.Tile

open Cert.KernelIdeal Cert.KernelIdeal.Gen Cert.KernelIdeal.Host
open Idealize.ShloMosaic Idealize.ShloMosaic.TcCoe Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Vals

variable {F : FTy → Type} [FloatOps F]

local notation "𝕄" => MT nD τ sig (HIx 1) (Elt F) ℕ UU ℕ

variable (m : (ℓ : Loc nD τ sig) → Buf (Elt F) ℓ) (ρ : Dev nD → PrngReg)

abbrev rX : DevRef τ sig := Proc.devRef .tc main_v32
abbrev rGx : DevRef τ sig := Proc.devRef .tc main_v33
abbrev rGy : DevRef τ sig := Proc.devRef .tc main_v34
abbrev rO : DevRef τ sig := Proc.devRef .tc main_v35
/-- The call's operands. -/
abbrev four : Finset (DevRef τ sig) := {rX, rGx, rGy, rO}

/-- The arrays before the call. -/
def Vpre (d : Dev nD) : Valuation τ sig (Elt F) := after hostOps (fun b => m (d, b))
/-- The call's three inputs. -/
def args (d : Dev nD) : Args F := ⟨Vpre m d rX, Vpre m d rGx, Vpre m d rGy⟩
/-- The arrays after the call. -/
def Vcall (d : Dev nD) : Valuation τ sig (Elt F) := Function.update (Vpre m d) rO (args m d).out
/-- The arrays at the end. -/
def Vend (d : Dev nD) : Valuation τ sig (Elt F) := (hostOut (F := F)).result (Vcall m d)

theorem four_sub : four ⊆ tcRefs τ sig := by
  intro b hb
  rcases Finset.mem_insert.1 hb with rfl | hb; · exact devRef_mem_tcRefs _
  rcases Finset.mem_insert.1 hb with rfl | hb; · exact devRef_mem_tcRefs _
  rcases Finset.mem_insert.1 hb with rfl | hb; · exact devRef_mem_tcRefs _
  obtain rfl := Finset.mem_singleton.1 hb; exact devRef_mem_tcRefs _

theorem held_four (d : Dev nD) (W : Valuation τ sig (Elt F)) :
    (held (SparseCore.T d) four W : sProp 𝕄)
      = iprop((xLoc d ↦{fullShare} W rX) ∗ (gxLoc d ↦{fullShare} W rGx) ∗ (gyLoc d ↦{fullShare} W rGy) ∗ oLoc d ↦{fullShare} W rO) := by
  unfold held four
  rw [SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (SparseCore.T d) (tcRefs τ sig) (fun b => m (d, b)) := by
  unfold unscopedBufs
  rw [show (Finset.univ.filter fun b : Ref sig .tc => ¬ b.isScoped) = Finset.univ by decide]
  unfold held tcRefs; rw [bigSep_map]; rfl

/-- The call's operands out of all the arrays, before it and after. -/
theorem held_pre (d : Dev nD) : (held (SparseCore.T d) (tcRefs τ sig) (Vpre m d) : sProp 𝕄)
    = iprop(((xLoc d ↦{fullShare} (args m d).x) ∗ (gxLoc d ↦{fullShare} (args m d).gx) ∗ (gyLoc d ↦{fullShare} (args m d).gy) ∗ oLoc d ↦{fullShare} Vpre m d rO)
        ∗ held (SparseCore.T d) (tcRefs τ sig \ four) (Vpre m d)) := by
  rw [held_sub_split (SparseCore.T d) four_sub, held_four]; rfl
theorem Vcall_rest (d : Dev nD) (b : DevRef τ sig) (hb : b ∈ tcRefs τ sig \ four) : Vcall m d b = Vpre m d b := by
  refine Function.update_of_ne (fun e => (Finset.mem_sdiff.1 hb).2 ?_) _ _
  subst e
  exact Finset.mem_insert_of_mem (Finset.mem_insert_of_mem (Finset.mem_insert_of_mem (Finset.mem_singleton_self _)))
theorem held_call (d : Dev nD) : (held (SparseCore.T d) (tcRefs τ sig) (Vcall m d) : sProp 𝕄)
    = iprop(((xLoc d ↦{fullShare} (args m d).x) ∗ (gxLoc d ↦{fullShare} (args m d).gx) ∗ (gyLoc d ↦{fullShare} (args m d).gy) ∗ oLoc d ↦{fullShare} (args m d).out)
        ∗ held (SparseCore.T d) (tcRefs τ sig \ four) (Vpre m d)) := by
  rw [held_sub_split (SparseCore.T d) four_sub, held_four,
    held_congr (SparseCore.T d) (S := tcRefs τ sig \ four) (V := Vcall m d) (V' := Vpre m d) (Vcall_rest m d)]
  unfold Vcall
  rw [Function.update_of_ne (show rX ≠ rO by decide), Function.update_of_ne (show rGx ≠ rO by decide), Function.update_of_ne (show rGy ≠ rO by decide),
    Function.update_self]
  rfl

theorem st0_eq (d : Dev nD) : (bigSep Finset.univ fun c : Fin ((K (F := F)).nCore 0) => (P (args m)).st 0 d c)
    = bigSep Finset.univ fun c : Fin (grid0.bound 0) => ins (args m) d c := rfl
theorem dn0_eq (d : Dev nD) : (bigSep Finset.univ fun c : Fin ((K (F := F)).nCore 0) => (P (args m)).dn 0 d c)
    = iprop((bigSep Finset.univ fun c : Fin (grid0.bound 0) => outs (args m) d c) ∗ bigSep Finset.univ fun c : Fin ((K (F := F)).nCore 0) => bars d c) :=
  bigSep_sep' _ (fun c : Fin ((K (F := F)).nCore 0) => outs (args m) d (gc c)) fun c => bars d c

/-- What `main` leaves: all its arrays, and the barrier semaphores at zero. -/
abbrev FIN (d : Dev nD) : sProp 𝕄 :=
  iprop(held (SparseCore.T d) (tcRefs τ sig) (Vend m d) ∗ bigSep Finset.univ fun c : Fin ((K (F := F)).nCore 0) => bars d c)

theorem hmain (κ : GSem nD τ sig → ℕ) (d : Dev nD) :
    iprop((K (F := F)).ctx EH (P (args m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (tcRefs τ sig) _ hostOps hostOps_sub hostOps_fresh (fun b => m (d, b))) $$ [Hb Hheld]
  · isplitl [Hb] <;> iassumption
  iintro ⟨Hb, Hheld⟩
  ihave Hh := (Entails.of_eq (show (held d.tc (tcRefs τ sig) (after hostOps fun b => m (d, b)) : sProp 𝕄) = _ from held_pre m d)) $$ Hheld
  icases Hh with ⟨H4, Hrest⟩
  rw [wp_bind]
  iapply ((K (F := F)).wp_run (D (F := F)) 𝒱 (EH := EH) (P := P (args m)) κ d 0) $$ [Hst H4 Hb Hrest Hts]
  isplitr; · iexact Hctx
  isplitl [Hst]; · iexact Hst
  isplitl [H4]
  · rw [st0_eq]
    iapply (ins_split (args m) d (Vpre m d rO)) $$ H4
  iintro ⟨Hst, Hdn⟩
  ihave Hdn' := (Entails.of_eq (dn0_eq m d)) $$ Hdn
  icases Hdn' with ⟨Houts, Hbars⟩
  ihave H4 := (outs_join (args m) d) $$ Houts
  ihave Hheld := (Entails.of_eq (held_call m d).symm) $$ [H4 Hrest]
  · isplitl [H4] <;> iassumption
  iapply (wp_hlo_within 𝒱 (SparseCore.T d) none Set.univ (op := hostOut) (S := tcRefs τ sig) (reshape_bufs_sub ..) (V := Vcall m d)) $$ [Hb Hheld]
  · isplitl [Hb] <;> iassumption
  iintro ⟨Hb, Hheld⟩
  rw [wp_ret]; imodintro
  isplitl [Hst]; · iexact Hst
  isplitr [Hb Hts]
  · unfold FIN Vend
    isplitl [Hheld] <;> iassumption
  isplitl [Hb] <;> iassumption

def fq (d : Dev nD) (s' : Phys nD τ sig (Elt F)) : Prop :=
  (∀ b ∈ tcRefs τ sig, s'.mem.mem (d, b) = Vend m d b)
    ∧ ∀ (c : Fin ((K (F := F)).nCore 0)) (i : Fin ((K (F := F)).nSub 0)), s'.mem.sem (bcell d (coreOf c) ((K (F := F)).sub 0 i)) = 0

theorem hfin (d : Dev nD) (s' : Phys nD τ sig (Elt F)) : iprop(FIN m d ∗ SI s') ⊢ (⌜fq m d s'⌝ : sProp 𝕄) :=
  fun x hx => ⟨((sep_mono_left sep_elim_left).trans (sep_comm.1.trans (SI_pointsTo_bufs_agree (qs := fun _ => fullShare) (tcRefs τ sig)))) x hx,
    fun c i => ((sep_mono_left (sep_elim_right.trans ((SparseCore.ent (bigSep_elim (Finset.mem_univ c))).trans
      (SparseCore.ent (bigSep_elim (Finset.mem_univ i)))))).trans (SparseCore.Cfg.semVal_zero_read _ s')) x hx⟩

/-- The barrier cells end at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2 ⟨c.val, c.isLt⟩ ⟨i.val, i.isLt⟩

/-- At the end: every array of `main` at its value, and every semaphore at zero. -/
def QC : PUnit × MemSt nD τ sig (Elt F) → Prop := fun r => (∀ d : Dev nD, ∀ b ∈ tcRefs τ sig, r.2.mem (d, b) = Vend m d b) ∧ r.2.sem = fun _ => 0

theorem run_main [∀ e, Nonempty (Elt F e)] (hx : ∀ d k, Fit (nth (args m d).gx k)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (args m)) (hA := hA m) facts v₀
    (fun q hq => match q with | 0 => nomatch hq)
    (fun q _ => match q with | 0 => tileObl (args m) facts hx)
    (fun q _ => match q with | 0 => vecSplit (args m))
    m ρ main (fun _ => iprop(emp)) (FIN m) (u₀ (F := F)) (hu₀ (args m)) (hmain m ρ) (fq m) (hfin m) (QC m) (fun _ h hz => ⟨fun d => (h d).1, hz⟩)

/-! ## What the ends hold -/

theorem Vend_keep (d : Dev nD) (b : Ref sig .tc) (h36 : Proc.devRef (τ := τ) .tc b ≠ Proc.devRef .tc main_v36) (h35 : Proc.devRef (τ := τ) .tc b ≠ rO) :
    Vend m d (Proc.devRef .tc b) = Vpre m d (Proc.devRef .tc b) := by
  unfold Vend
  rw [(hostOut (F := F)).result_of_not_mem _ (show Proc.devRef .tc b ∉ ({Proc.devRef .tc main_v36} : Finset (DevRef τ sig)) from fun h => h36 (Finset.mem_singleton.1 h))]
  exact Function.update_of_ne h35 _ _
theorem Vend_off (d : Dev nD) : Vend m d (Proc.devRef .tc main_arg0) = m (d, Proc.devRef .tc main_arg0) :=
  (Vend_keep m d main_arg0 (by decide) (by decide)).trans (keep_off _)
theorem Vend_x (d : Dev nD) : Vend m d (Proc.devRef .tc main_arg1) = m (d, Proc.devRef .tc main_arg1) :=
  (Vend_keep m d main_arg1 (by decide) (by decide)).trans (keep_x _)
theorem Vend_out (d : Dev nD) : Vend m d (Proc.devRef .tc main_v36) = shapeCast S4x96x224x224 (args m d).out shapeCasts_S19267584_S4x96x224x224 := by
  unfold Vend
  rw [reshape_result']
  unfold Vcall
  rw [Function.update_self]; rfl

theorem args_x (d : Dev nD) : (args m d).x = shapeCast S19267584 (m (d, Proc.devRef .tc main_arg1) : S4x96x224x224.Idx → F .f32) shapeCasts_S4x96x224x224_S19267584 := by
  unfold args Vpre; exact read_x fun b => m (d, b)
theorem args_gx (d : Dev nD) : (args m d).gx = shapeCast S200704 (coordX (m (d, Proc.devRef .tc main_arg0) : S4x50176x2.Idx → F .f32)) shapeCasts_S4x224x224_S200704 := by
  unfold args Vpre; exact read_gx fun b => m (d, b)
theorem args_gy (d : Dev nD) : (args m d).gy = shapeCast S200704 (coordY (m (d, Proc.devRef .tc main_arg0) : S4x50176x2.Idx → F .f32)) shapeCasts_S4x224x224_S200704 := by
  unfold args Vpre; exact read_gy fun b => m (d, b)

end Cert.KernelIdeal.Tile

end

end
-- ==== Proof.Frames.lean ====
module

public import proofs.«01_k».proof.Defs
public import proofs.«01_k».proof.Proof.Pre
public import proofs.«01_k».proof.Proof.KRun
public import proofs.«01_k».proof.Proof.IRun
public import proofs.«01_k».proof.Proof.Gen.ReferenceIdeal.Run
public import Idealize.ShloMosaic.Adequacy

/-!
# The frames

Each program runs to its end without fault, leaves its arguments, and ends with every semaphore at zero.
-/

@[expose] public section

noncomputable section

namespace Cert.Proof

open Idealize.ShloMosaic Idealize.SL.Sem Idealize.ShloMosaic.StableHlo
open Cert.Vals

/-- The flat coordinates across fit where the places' do. -/
theorem fit_flat {F : FTy → Type} [FloatOps F] (f : FVec F Cert.Kernel.S4x224x224 .f32) (h : ∀ p, Fit (f p)) (k : Nat) :
    Fit (nth (shapeCast Cert.Kernel.S200704 f Cert.Kernel.Gen.shapeCasts_S4x224x224_S200704) k) := h _

theorem frame_p : Cert.quiescent_Kernel := fun m g hpre =>
  (θ_run Cert.Kernel.defs _ _).mono
    (fun _ h => ⟨fun c => ⟨(h.1 c _ (devRef_mem_tcRefs Cert.Kernel.main_arg0)).trans (Cert.Kernel.Tile.Vend_off m c),
      (h.1 c _ (devRef_mem_tcRefs Cert.Kernel.main_arg1)).trans (Cert.Kernel.Tile.Vend_x m c)⟩, h.2⟩)
    (Cert.Kernel.Tile.run_main (F := Bits) m g fun d k => by
      rw [Cert.Kernel.Tile.args_gx]
      exact fit_flat _ (Cert.Pre.fits (hpre d)) k)

/-- The idealized kernel's run, from a memory of which the precondition holds. -/
theorem run_pi (m : (ℓ : Loc Cert.KernelIdeal.nD Cert.KernelIdeal.τ Cert.KernelIdeal.sig) → Buf (Elt Ideal) ℓ) (g : Dev Cert.KernelIdeal.nD → PrngReg)
    (hpre : Cert.Pre_KernelIdeal m) :
    θ_run (Cert.KernelIdeal.defs (F := Ideal)) (Cert.KernelIdeal.threads (F := Ideal)) ⟨m, fun _ => 0, g⟩ (Cert.KernelIdeal.Tile.QC m) :=
  Cert.KernelIdeal.Tile.run_main (F := Ideal) m g fun d k => by
    rw [Cert.KernelIdeal.Tile.args_gx]
    exact fit_flat _ (Cert.Pre.fits (hpre d)) k

theorem frame_pi : Cert.quiescent_KernelIdeal := fun m g hpre =>
  (θ_run Cert.KernelIdeal.defs _ _).mono
    (fun _ h => ⟨fun c => ⟨(h.1 c _ (devRef_mem_tcRefs Cert.KernelIdeal.main_arg0)).trans (Cert.KernelIdeal.Tile.Vend_off m c),
      (h.1 c _ (devRef_mem_tcRefs Cert.KernelIdeal.main_arg1)).trans (Cert.KernelIdeal.Tile.Vend_x m c)⟩, h.2⟩)
    (run_pi m g hpre)

theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof

end

end
-- ==== Proof.Axis.lean ====
module

public import proofs.«01_k».proof.Proof.Vals
public import Idealize.ShloMosaic.PureOps.Ideal

/-!
# One coordinate, by the kernel and by the reference, over the extended reals

The kernel finds a coordinate's grid line as an integer, tests the integer, and puts a zero weight on a line outside
the plane. The reference takes the floor as a number, tests the number, and multiplies the plane's value by the
test. `Agree` says that the two come to the same on one line: both take it, at the same place with the same weight,
or neither does. `low_agree` and `high_agree` prove it for the two lines of any coordinate.
-/

@[expose] public section

noncomputable section

namespace Cert.Axis

open Idealize.ShloMosaic
open Cert.Vals

/-- The reference's place on the axis for the line numbered `f`. -/
def place (f : Ideal .f32) : BitVec 32 :=
  let q : BitVec 32 := FloatOps.fptosi 32 (FloatOps.minimumf (FloatOps.sitofp .f32 223#32) (FloatOps.maximumf (FloatOps.sitofp .f32 0#32) f))
  Scalar.select (IntOp.cmpi .slt q 0#32) (IntOp.addi q 224#32) q

/-- The reference's two tests of the line numbered `f`. -/
def above (f : Ideal .f32) : BitVec 1 := FloatOps.cmpf .oge f (FloatOps.ofBits .f32 0x00000000#32)
def below (f : Ideal .f32) : BitVec 1 := FloatOps.cmpf .ole f (FloatOps.ofBits .f32 0x435F0000#32)

/-- The reference's number for the line at or below `g`, and for the line above. -/
def lowF (g : Ideal .f32) : Ideal .f32 := FloatOps.hostUnary .floor g
def highF (g : Ideal .f32) : Ideal .f32 := FloatOps.addf (lowF g) (FloatOps.ofBits .f32 0x3F800000#32)

/-- The reference's weight of the high line and of the low line. -/
def highV (g : Ideal .f32) : Ideal .f32 := FloatOps.subf g (lowF g)
def lowV (g : Ideal .f32) : Ideal .f32 := FloatOps.subf (FloatOps.ofBits .f32 0x3F800000#32) (highV g)

/-- One line: the reference numbers it `f` and weighs it `v`, the kernel numbers it `c` and weighs it `w`. Both take
    it, or neither does. -/
def Agree (f v : Ideal .f32) (c : BitVec 32) (w : Ideal .f32) : Prop :=
  (above f = 1#1 ∧ below f = 1#1 ∧ w = v ∧ (place f).toInt.toNat = (clip c).toNat)
    ∨ ((above f = 0#1 ∨ below f = 0#1) ∧ w = (0 : EReal))

theorem zero_f : FloatOps.ofBits (F := Ideal) .f32 0x00000000#32 = (0 : EReal) := by
  show Ideal.ofBits .f32 0x00000000#32 = 0
  simp [Ideal.ofBits, Ideal.ieee]
theorem one_f : FloatOps.ofBits (F := Ideal) .f32 0x3F800000#32 = (1 : EReal) := by
  show Ideal.ofBits .f32 0x3F800000#32 = 1
  simp [Ideal.ofBits, Ideal.ieee, -EReal.coe_mul]; norm_num
theorem last_f : FloatOps.ofBits (F := Ideal) .f32 0x435F0000#32 = ((223 : ℝ) : EReal) := by
  show Ideal.ofBits .f32 0x435F0000#32 = ((223 : ℝ) : EReal)
  simp [Ideal.ofBits, Ideal.ieee, -EReal.coe_mul]; norm_num

theorem above_eq (f : Ideal .f32) : above f = BitVec.ofBool (decide ((0 : EReal) ≤ f)) := by
  unfold above; rw [zero_f]; rfl
theorem below_eq (f : Ideal .f32) : below f = BitVec.ofBool (decide (f ≤ ((223 : ℝ) : EReal))) := by
  unfold below; rw [last_f]; rfl

theorem inside_eq (c : BitVec 32) : inside c = BitVec.ofBool (decide (0 ≤ c.toInt ∧ c.toInt ≤ 223)) := by
  have h0 : (0#32 : BitVec 32).toInt = 0 := by decide
  have h223 : (223#32 : BitVec 32).toInt = 223 := by decide
  have e : inside c = BitVec.ofBool (decide ((0#32 : BitVec 32).toInt ≤ c.toInt)) &&& BitVec.ofBool (decide (c.toInt ≤ (223#32 : BitVec 32).toInt)) := rfl
  rw [e, h0, h223]
  by_cases h1 : 0 ≤ c.toInt <;> by_cases h2 : c.toInt ≤ 223 <;> simp [h1, h2]

/-- A coordinate truncated, between the ends of the integers. -/
theorem trunc_real {r : ℝ} (h1 : -2147483648 < r) (h2 : r < 2147483647) :
    (FloatOps.fptosi (F := Ideal) (φ := .f32) 32 (r : EReal)).toInt = if 0 ≤ r then ⌊r⌋ else ⌈r⌉ := by
  show (BitVec.ofInt 32 (max (-(2 ^ 31 : Nat)) (min ((2 ^ 31 : Nat) - 1) (if 0 ≤ r then ⌊r⌋ else ⌈r⌉)))).toInt = _
  have hb : -2147483648 ≤ (if 0 ≤ r then ⌊r⌋ else ⌈r⌉) ∧ (if 0 ≤ r then ⌊r⌋ else ⌈r⌉) ≤ 2147483647 := by
    split
    · rename_i h0
      exact ⟨(by norm_num : (-2147483648 : ℤ) ≤ 0).trans (Int.floor_nonneg.2 h0), Int.floor_le_iff.2 (by push_cast; linarith)⟩
    · rename_i h0
      have hl : (-2147483648 : ℤ) < ⌈r⌉ := Int.lt_ceil.2 (by push_cast; linarith)
      have hu : ⌈r⌉ ≤ 0 := Int.ceil_le.2 (by push_cast; linarith)
      omega
  obtain ⟨l, u⟩ := hb
  rw [BitVec.toInt_ofInt, Int.bmod_def]
  omega

theorem cell_real {r : ℝ} (h1 : -2147483648 < r) (h2 : r < 2147483647) :
    (cell (F := Ideal) (r : EReal)).toInt = ⌊r⌋ := by
  have ht := trunc_real h1 h2
  have hl : (-2147483648 : ℤ) ≤ ⌊r⌋ := Int.le_floor.2 (by push_cast; linarith)
  have hu : ⌊r⌋ ≤ 2147483647 := Int.floor_le_iff.2 (by push_cast; linarith)
  unfold cell Scalar.select
  have hc : FloatOps.cmpf (F := Ideal) (φ := .f32) .olt (r : EReal) (FloatOps.sitofp .f32 (FloatOps.fptosi (F := Ideal) (φ := .f32) 32 (r : EReal)))
      = BitVec.ofBool (decide (r < (((if 0 ≤ r then ⌊r⌋ else ⌈r⌉ : ℤ)) : ℝ))) := by
    show BitVec.ofBool (decide ((r : EReal) < (((FloatOps.fptosi (F := Ideal) (φ := .f32) 32 (r : EReal)).toInt : ℝ) : EReal))) = _
    rw [ht]
    congr 1
    exact decide_eq_decide.2 EReal.coe_lt_coe_iff
  rw [hc]
  by_cases h0 : 0 ≤ r
  · rw [if_pos h0] at ht ⊢
    rw [if_neg (by rw [decide_eq_false (not_lt.2 (Int.floor_le r))]; decide)]
    exact ht
  · rw [if_neg h0] at ht ⊢
    by_cases hr : r < (⌈r⌉ : ℝ)
    · rw [if_pos (by rw [decide_eq_true hr]; decide)]
      have e : ⌈r⌉ = ⌊r⌋ + 1 := by
        refine le_antisymm (Int.ceil_le_floor_add_one r) (Int.add_one_le_iff.2 (Int.floor_lt.2 hr))
      unfold IntOp.subi
      rw [BitVec.toInt_sub, ht, e, show (1#32 : BitVec 32).toInt = 1 by decide, Int.bmod_def]
      omega
    · rw [if_neg (by rw [decide_eq_false hr]; decide), ht]
      refine le_antisymm (Int.le_floor.2 (not_lt.1 hr)) (Int.floor_le_ceil r)

theorem next_real {r : ℝ} (h1 : -2147483648 < r) (h2 : r < 2147483647) :
    (next (F := Ideal) (r : EReal)).toInt = ⌊r⌋ + 1 := by
  have hc := cell_real h1 h2
  have hl : (-2147483648 : ℤ) ≤ ⌊r⌋ := Int.le_floor.2 (by push_cast; linarith)
  have hu : ⌊r⌋ < 2147483647 := Int.floor_lt.2 (by push_cast; linarith)
  unfold next IntOp.addi
  rw [BitVec.toInt_add, hc, show (1#32 : BitVec 32).toInt = 1 by decide, Int.bmod_def]
  omega

/-- Past the ends of the integers. -/
def Far (g : EReal) : Prop := g ≤ ((-2147483648 : ℝ) : EReal) ∨ ((2147483647 : ℝ) : EReal) ≤ g

theorem near_or_far (g : EReal) : Far g ∨ ∃ r : ℝ, g = (r : EReal) ∧ -2147483648 < r ∧ r < 2147483647 := by
  induction g using EReal.rec with
  | bot => exact .inl (.inl bot_le)
  | top => exact .inl (.inr le_top)
  | coe r =>
    by_cases h1 : r ≤ -2147483648
    · exact .inl (.inl (EReal.coe_le_coe_iff.2 h1))
    by_cases h2 : 2147483647 ≤ r
    · exact .inl (.inr (EReal.coe_le_coe_iff.2 h2))
    exact .inr ⟨r, rfl, not_le.1 h1, not_le.1 h2⟩

theorem trunc_down {g : EReal} (h : g ≤ ((-2147483648 : ℝ) : EReal)) :
    FloatOps.fptosi (F := Ideal) (φ := .f32) 32 g = 2147483648#32 := by
  induction g using EReal.rec with
  | bot => rfl
  | top => exact absurd h (EReal.coe_lt_top _).not_ge
  | coe r =>
    have hr : r ≤ -2147483648 := EReal.coe_le_coe_iff.1 h
    have hc : ⌈r⌉ ≤ -2147483648 := Int.ceil_le.2 (by push_cast; linarith)
    show BitVec.ofInt 32 (max (-(2 ^ 31 : Nat)) (min ((2 ^ 31 : Nat) - 1) (if 0 ≤ r then ⌊r⌋ else ⌈r⌉))) = _
    rw [if_neg (by linarith), show max (-((2 ^ 31 : Nat) : ℤ)) (min (((2 ^ 31 : Nat) : ℤ) - 1) ⌈r⌉) = -2147483648 by omega]
    rfl

theorem trunc_up {g : EReal} (h : ((2147483647 : ℝ) : EReal) ≤ g) :
    FloatOps.fptosi (F := Ideal) (φ := .f32) 32 g = 2147483647#32 := by
  induction g using EReal.rec with
  | bot => exact absurd (le_antisymm bot_le h) (by simp)
  | top => rfl
  | coe r =>
    have hr : 2147483647 ≤ r := EReal.coe_le_coe_iff.1 h
    have hc : 2147483647 ≤ ⌊r⌋ := Int.le_floor.2 (by push_cast; linarith)
    show BitVec.ofInt 32 (max (-(2 ^ 31 : Nat)) (min ((2 ^ 31 : Nat) - 1) (if 0 ≤ r then ⌊r⌋ else ⌈r⌉))) = _
    rw [if_pos (by linarith), show max (-((2 ^ 31 : Nat) : ℤ)) (min (((2 ^ 31 : Nat) : ℤ) - 1) ⌊r⌋) = 2147483647 by omega]
    rfl

/-- Past the ends the kernel's grid line is an end of the integers: no line of the plane, nor is the next. -/
theorem cell_far {g : EReal} (h : Far g) : cell (F := Ideal) g = 2147483648#32 ∨ cell (F := Ideal) g = 2147483647#32 := by
  unfold cell Scalar.select
  rcases h with h | h
  · rw [trunc_down h]
    split
    · exact .inr (by decide)
    · exact .inl rfl
  · rw [trunc_up h]
    rw [if_neg]
    · exact .inr rfl
    · show ¬(BitVec.ofBool (decide (g < (((2147483647#32 : BitVec 32).toInt : ℝ) : EReal))) = 1)
      rw [show (2147483647#32 : BitVec 32).toInt = 2147483647 by decide, decide_eq_false (not_lt.2 (by exact_mod_cast h))]
      decide

theorem inside_far {g : EReal} (h : Far g) : inside (cell (F := Ideal) g) = 0#1 ∧ inside (next (F := Ideal) g) = 0#1 := by
  unfold next
  rcases cell_far h with e | e <;> rw [e] <;> decide

/-- Past the ends the reference's tests fail too. -/
theorem tests_far {g : EReal} (h : Far g) :
    (above (lowF g) = 0#1 ∨ below (lowF g) = 0#1) ∧ (above (highF g) = 0#1 ∨ below (highF g) = 0#1) := by
  have up : ∀ f : EReal, ((223 : ℝ) : EReal) < f → below f = 0#1 := fun f hf => by
    rw [below_eq, decide_eq_false (not_le.2 hf)]; rfl
  have dn : ∀ f : EReal, f < 0 → above f = 0#1 := fun f hf => by
    rw [above_eq, decide_eq_false (not_le.2 hf)]; rfl
  have e1 : highF g = lowF g + (1 : EReal) := by unfold highF; rw [one_f]; rfl
  rw [e1]
  induction g using EReal.rec with
  | bot => exact ⟨.inl (dn _ EReal.bot_lt_zero), .inl (dn _ (by show (⊥ : EReal) + 1 < 0; rw [EReal.bot_add]; exact EReal.bot_lt_zero))⟩
  | top => exact ⟨.inr (up _ (EReal.coe_lt_top _)), .inr (up _ (by show _ < (⊤ : EReal) + 1; rw [EReal.top_add_of_ne_bot (show (1 : EReal) ≠ ⊥ from EReal.coe_ne_bot 1)]; exact EReal.coe_lt_top _))⟩
  | coe r =>
    have e2 : lowF (r : EReal) = ((⌊r⌋ : ℝ) : EReal) := rfl
    have e3 : (((⌊r⌋ : ℝ) : EReal)) + (1 : EReal) = (((⌊r⌋ : ℝ) + 1 : ℝ) : EReal) := by
      rw [EReal.coe_add, EReal.coe_one]
    rw [e2, e3]
    rcases h with h | h
    · have hr : r ≤ -2147483648 := EReal.coe_le_coe_iff.1 h
      have hf := Int.floor_le r
      refine ⟨.inl (dn _ ?_), .inl (dn _ ?_)⟩ <;> rw [← EReal.coe_zero, EReal.coe_lt_coe_iff] <;> linarith
    · have hr : 2147483647 ≤ r := EReal.coe_le_coe_iff.1 h
      have hf := Int.lt_floor_add_one r
      refine ⟨.inr (up _ ?_), .inr (up _ ?_)⟩ <;> rw [EReal.coe_lt_coe_iff] <;> linarith

/-- The reference's place for a line of the plane is its number. -/
theorem place_int {n : ℤ} (h0 : 0 ≤ n) (h1 : n ≤ 223) : (place (((n : ℝ)) : EReal)).toInt.toNat = n.toNat := by
  have hq : FloatOps.fptosi (F := Ideal) (φ := .f32) 32 (FloatOps.minimumf (FloatOps.sitofp .f32 223#32) (FloatOps.maximumf (FloatOps.sitofp .f32 0#32) (((n : ℝ)) : EReal)))
      = BitVec.ofInt 32 n := by
    show FloatOps.fptosi (F := Ideal) (φ := .f32) 32 (min ((((223#32 : BitVec 32).toInt : ℝ)) : EReal) (max ((((0#32 : BitVec 32).toInt : ℝ)) : EReal) ((n : ℝ) : EReal))) = _
    rw [show (223#32 : BitVec 32).toInt = 223 by decide, show (0#32 : BitVec 32).toInt = 0 by decide,
      max_eq_right (EReal.coe_le_coe_iff.2 (by exact_mod_cast h0)), min_eq_right (EReal.coe_le_coe_iff.2 (by exact_mod_cast h1))]
    have ht := trunc_real (r := (n : ℝ)) (by have : (0 : ℝ) ≤ n := by exact_mod_cast h0
                                             linarith) (by have : (n : ℝ) ≤ 223 := by exact_mod_cast h1
                                                           linarith)
    rw [if_pos (by exact_mod_cast h0), Int.floor_intCast] at ht
    exact (BitVec.ofInt_toInt).symm.trans (congrArg (BitVec.ofInt 32) ht)
  unfold place
  simp only [hq]
  have ht : (BitVec.ofInt 32 n).toInt = n := by rw [BitVec.toInt_ofInt, Int.bmod_def]; omega
  have hs : IntOp.cmpi .slt (BitVec.ofInt 32 n) 0#32 = 0#1 := by
    show BitVec.ofBool (decide ((BitVec.ofInt 32 n).toInt < (0#32 : BitVec 32).toInt)) = 0#1
    rw [ht, show (0#32 : BitVec 32).toInt = 0 by decide, decide_eq_false (by omega)]; rfl
  rw [hs]
  show (BitVec.ofInt 32 n).toInt.toNat = _
  rw [ht]

/-- A line both number `n`. -/
theorem agree_int {n : ℤ} {c : BitVec 32} {v w : EReal} (hc : c.toInt = n) (hw : w = Scalar.select (inside c) v 0) :
    Agree (((n : ℝ)) : EReal) v c w := by
  unfold Agree
  rw [above_eq, below_eq, hw, inside_eq, hc]
  have a : ((0 : EReal) ≤ ((n : ℝ) : EReal)) ↔ 0 ≤ n := by rw [← EReal.coe_zero, EReal.coe_le_coe_iff]; exact_mod_cast Iff.rfl
  have b : (((n : ℝ) : EReal) ≤ ((223 : ℝ) : EReal)) ↔ n ≤ 223 := by rw [EReal.coe_le_coe_iff]; exact_mod_cast Iff.rfl
  simp only [a, b]
  by_cases h0 : 0 ≤ n
  · by_cases h1 : n ≤ 223
    · refine .inl ⟨by rw [decide_eq_true h0]; rfl, by rw [decide_eq_true h1]; rfl, by rw [decide_eq_true ⟨h0, h1⟩]; rfl, ?_⟩
      rw [place_int h0 h1, clip_toNat, hc]; omega
    · exact .inr ⟨.inr (by rw [decide_eq_false h1]; rfl), by rw [decide_eq_false fun h => h1 h.2]; rfl⟩
  · exact .inr ⟨.inl (by rw [decide_eq_false h0]; rfl), by rw [decide_eq_false fun h => h0 h.1]; rfl⟩

theorem frac_real {r : ℝ} (h1 : -2147483648 < r) (h2 : r < 2147483647) : frac (F := Ideal) (r : EReal) = highV (r : EReal) := by
  show (r : EReal) - (((cell (F := Ideal) (r : EReal)).toInt : ℝ) : EReal) = (r : EReal) - ((⌊r⌋ : ℝ) : EReal)
  rw [cell_real h1 h2]

theorem low_agree (g : EReal) : Agree (lowF g) (lowV g) (cell (F := Ideal) g) (lowW (F := Ideal) g) := by
  rcases near_or_far g with h | ⟨r, rfl, h1, h2⟩
  · refine .inr ⟨(tests_far h).1, ?_⟩
    unfold lowW; rw [(inside_far h).1]; exact zero_f
  · refine agree_int (n := ⌊r⌋) (cell_real h1 h2) ?_
    unfold lowW lowV; rw [frac_real h1 h2, zero_f]

theorem high_agree (g : EReal) : Agree (highF g) (highV g) (next (F := Ideal) g) (highW (F := Ideal) g) := by
  rcases near_or_far g with h | ⟨r, rfl, h1, h2⟩
  · refine .inr ⟨(tests_far h).2, ?_⟩
    unfold highW; rw [(inside_far h).2]; exact zero_f
  · have e : highF (r : EReal) = (((⌊r⌋ + 1 : ℤ) : ℝ) : EReal) := by
      unfold highF; rw [one_f]
      show ((⌊r⌋ : ℝ) : EReal) + 1 = _
      push_cast; rfl
    rw [e]
    refine agree_int (n := ⌊r⌋ + 1) (next_real h1 h2) ?_
    unfold highW; rw [frac_real h1 h2, zero_f]

/-- The reference's test of a corner, as the number it multiplies by. -/
def test (fx fy : Ideal .f32) : Ideal .f32 :=
  FloatOps.uitofp .f32 (IntOp.andi (IntOp.andi (IntOp.andi (above fx) (below fx)) (above fy)) (below fy))

theorem test_eq (fx fy : Ideal .f32) :
    test fx fy = if above fx = 1#1 ∧ below fx = 1#1 ∧ above fy = 1#1 ∧ below fy = 1#1 then (1 : EReal) else 0 := by
  have cases : ∀ a b c d : BitVec 1, ((IntOp.andi (IntOp.andi (IntOp.andi a b) c) d).toNat = if a = 1#1 ∧ b = 1#1 ∧ c = 1#1 ∧ d = 1#1 then 1 else 0) := by
    decide
  show (((IntOp.andi (IntOp.andi (IntOp.andi (above fx) (below fx)) (above fy)) (below fy)).toNat : ℝ) : EReal) = _
  rw [cases]
  split <;> simp

/-- One corner: the reference's value times its test times its weights is the kernel's value times its weights. -/
theorem corner {fx vx fy vy wx wy : Ideal .f32} {cx cy : BitVec 32} (hx : Agree fx vx cx wx) (hy : Agree fy vy cy wy)
    (p : Nat → Nat → Ideal .f32) :
    FloatOps.mulf (FloatOps.mulf (p (place fy).toInt.toNat (place fx).toInt.toNat) (test fx fy)) (FloatOps.mulf vx vy)
      = FloatOps.mulf (p (clip cy).toNat (clip cx).toNat) (FloatOps.mulf wx wy) := by
  show (p _ _ * test fx fy : EReal) * (vx * vy) = (p _ _ : EReal) * (wx * wy)
  rw [test_eq]
  rcases hx with ⟨a, b, rfl, hx⟩ | ⟨hx, rfl⟩
  · rcases hy with ⟨c, d, rfl, hy⟩ | ⟨hy, rfl⟩
    · rw [if_pos ⟨a, b, c, d⟩, mul_one, hx, hy]
    · rw [if_neg, mul_zero, zero_mul, mul_zero, mul_zero]
      rintro ⟨-, -, c, d⟩
      rcases hy with h | h
      · rw [h] at c; exact absurd c (by decide)
      · rw [h] at d; exact absurd d (by decide)
  · rw [if_neg, mul_zero, zero_mul, zero_mul, mul_zero]
    rintro ⟨a, b, -, -⟩
    rcases hx with h | h
    · rw [h] at a; exact absurd a (by decide)
    · rw [h] at b; exact absurd b (by decide)

end Cert.Axis

end

end
-- ==== Proof.Sample.lean ====
module

public import proofs.«01_k».proof.Proof.Axis
public import proofs.«01_k».proof.Proof.Grid
public import proofs.«01_k».proof.Proof.Gen.ReferenceIdeal.Run
public import Idealize.ShloMosaic.Lib.Pipeline.Value

/-!
# The reference's result, read at one place

The reference adds four terms, one for each corner. A term looks up the corner's value in the plane, multiplies it
by the test that the corner lies in the plane, and by the corner's weight (`term`). `result_at` reads the whole result
at image `b`, plane `ch`, row `i`, column `j`, in the words of one coordinate's lines.
-/

@[expose] public section

noncomputable section

namespace Cert.Sample

open Cert.ReferenceIdeal Cert.ReferenceIdeal.Gen Cert.ReferenceIdeal.Value
open Idealize.ShloMosaic Idealize.ShloMosaic.ValueIdx
open Idealize.ShloMosaic.StableHlo
open Cert.Vals Cert.Axis

/-- The value of a plane at a row and a column, each moved to the last if past it. -/
def pick (x : FVec Ideal S4x96x224x224 .f32) (b : Fin 4) (ch : Fin 96) (r c : Nat) : Ideal .f32 :=
  x (ix4 b ch ⟨min r 223, by omega⟩ ⟨min c 223, by omega⟩)

/-- The pair of row and column at each place. -/
def pairs (r c : IVec S4x224x224 32) : IVec S4x224x224x2 32 :=
  concatenate S4x224x224x2 3
    [⟨S4x224x224x1, broadcastInDim S4x224x224x1 ![0, 1, 2] bcast_S4x224x224_S4x224x224x1_0_1_2 r⟩,
      ⟨S4x224x224x1, broadcastInDim S4x224x224x1 ![0, 1, 2] bcast_S4x224x224_S4x224x224x1_0_1_2 c⟩]
    concatenates_S4x224x224x1_S4x224x224x1_S4x224x224x2_d3

theorem unit_at (r : IVec S4x224x224 32) (b : Fin 4) (i j : Fin 224) :
    broadcastInDim S4x224x224x1 ![0, 1, 2] bcast_S4x224x224_S4x224x224x1_0_1_2 r (ix4 b i j (0 : Fin 1)) = r (ix3 b i j) :=
  broadcastInDim_apply _ _ _ _ _ fun a => by
    match a with
    | ⟨0, _⟩ => rfl
    | ⟨1, _⟩ => rfl
    | ⟨2, _⟩ => rfl

theorem pairs_row (r c : IVec S4x224x224 32) (b : Fin 4) (i j : Fin 224) : pairs r c (ix4 b i j (0 : Fin 2)) = r (ix3 b i j) := by
  unfold pairs
  refine (concatenate_pair_apply_left (t := S4x224x224x2) (s₁ := S4x224x224x1) (s₂ := S4x224x224x1) 3 _ _ _ (ix4 b i j (0 : Fin 2)) rfl (ix4 b i j (0 : Fin 1)) fun a => ?_).trans (unit_at r b i j)
  match a with
  | ⟨0, _⟩ => rfl
  | ⟨1, _⟩ => rfl
  | ⟨2, _⟩ => rfl
  | ⟨3, _⟩ => rfl

theorem pairs_col (r c : IVec S4x224x224 32) (b : Fin 4) (i j : Fin 224) : pairs r c (ix4 b i j (1 : Fin 2)) = c (ix3 b i j) := by
  unfold pairs
  refine (concatenate_pair_apply_right (t := S4x224x224x2) (s₁ := S4x224x224x1) (s₂ := S4x224x224x1) 3 _ _ _ (ix4 b i j (1 : Fin 2)) rfl rfl (ix4 b i j (0 : Fin 1)) (fun a ha => ?_) rfl).trans
    (unit_at c b i j)
  match a, ha with
  | ⟨0, _⟩, _ => rfl
  | ⟨1, _⟩, _ => rfl
  | ⟨2, _⟩, _ => rfl
  | ⟨3, _⟩, ha => exact absurd rfl ha

/-- The look-up. -/
abbrev look := gather_S4x96x224x224_S4x224x224x2_S4x96x224x224_1_23_0_0_23_3_19611

theorem look_row (b : Fin 4) (ch : Fin 96) (i j : Fin 224) : look.siIdx (ix4 b ch i j) ⟨0, by decide⟩ = ix4 b i j (0 : Fin 2) := by
  funext a; refine Fin.ext ?_
  match a with
  | ⟨0, _⟩ => rfl
  | ⟨1, _⟩ => rfl
  | ⟨2, _⟩ => rfl
  | ⟨3, _⟩ => rfl
theorem look_col (b : Fin 4) (ch : Fin 96) (i j : Fin 224) : look.siIdx (ix4 b ch i j) ⟨1, by decide⟩ = ix4 b i j (1 : Fin 2) := by
  funext a; refine Fin.ext ?_
  match a with
  | ⟨0, _⟩ => rfl
  | ⟨1, _⟩ => rfl
  | ⟨2, _⟩ => rfl
  | ⟨3, _⟩ => rfl

theorem look_at (x : FVec Ideal S4x96x224x224 .f32) (r c : IVec S4x224x224 32) (b : Fin 4) (ch : Fin 96) (i j : Fin 224) :
    Host.gather look x (pairs r c) (ix4 b ch i j) = pick x b ch (r (ix3 b i j)).toInt.toNat (c (ix3 b i j)).toInt.toNat := by
  unfold Host.gather pick
  congr 1
  funext a
  refine Fin.ext ?_
  show look.start _ (pairs r c) a + look.batchCoord _ a + look.offCoord _ a = _
  have h4 : a = (0 : Fin 4) ∨ a = (1 : Fin 4) ∨ a = (2 : Fin 4) ∨ a = (3 : Fin 4) := by
    match a with
    | ⟨0, _⟩ => exact .inl rfl
    | ⟨1, _⟩ => exact .inr (.inl rfl)
    | ⟨2, _⟩ => exact .inr (.inr (.inl rfl))
    | ⟨3, _⟩ => exact .inr (.inr (.inr rfl))
  rcases h4 with rfl | rfl | rfl | rfl
  · rw [GatherDims.start_batching _ _ _ _ (by decide), GatherDims.offCoord_eq_zero _ _ _ (by decide)]
    unfold GatherDims.batchCoord
    rw [dif_pos (by decide)]
    simp only [Nat.zero_add, Nat.add_zero]
    rfl
  · rw [GatherDims.batchCoord_eq_zero _ _ _ (by decide)]
    unfold GatherDims.start GatherDims.offCoord
    rw [dif_neg (by decide), dif_pos (by decide)]
    simp only [Nat.zero_add, Nat.add_zero]
    rfl
  · rw [GatherDims.batchCoord_eq_zero _ _ _ (by decide), GatherDims.offCoord_eq_zero _ _ _ (by decide)]
    unfold GatherDims.start
    rw [dif_pos (by decide)]
    simp only [Nat.add_zero]
    rw [← pairs_row r c b i j, ← look_row b ch i j]
    rfl
  · rw [GatherDims.batchCoord_eq_zero _ _ _ (by decide), GatherDims.offCoord_eq_zero _ _ _ (by decide)]
    unfold GatherDims.start
    rw [dif_pos (by decide)]
    simp only [Nat.add_zero]
    rw [← pairs_col r c b i j, ← look_col b ch i j]
    rfl

/-- A value for each place of an image, the same on every plane. -/
def planes (v : FVec Ideal S4x224x224 .f32) : FVec Ideal S4x96x224x224 .f32 :=
  broadcastInDim S4x96x224x224 ![0, 1, 2, 3] bcast_S4x1x224x224_S4x96x224x224_0_1_2_3
    (broadcastInDim S4x1x224x224 ![0, 2, 3] bcast_S4x224x224_S4x1x224x224_0_2_3 v)

theorem planes_at (v : FVec Ideal S4x224x224 .f32) (b : Fin 4) (ch : Fin 96) (i j : Fin 224) : planes v (ix4 b ch i j) = v (ix3 b i j) := by
  unfold planes
  rw [broadcastInDim_apply _ _ _ _ (ix4 b (0 : Fin 1) i j) fun a => by
    match a with
    | ⟨0, _⟩ => rfl
    | ⟨1, _⟩ => rfl
    | ⟨2, _⟩ => rfl
    | ⟨3, _⟩ => rfl]
  exact broadcastInDim_apply _ _ _ _ _ fun a => by
    match a with
    | ⟨0, _⟩ => rfl
    | ⟨1, _⟩ => rfl
    | ⟨2, _⟩ => rfl

/-- The places on one axis of the lines numbered `f`. -/
def places (f : FVec Ideal S4x224x224 .f32) : IVec S4x224x224 32 := fun p => place (f p)
/-- The tests of the corners. -/
def tests (fx fy : FVec Ideal S4x224x224 .f32) : FVec Ideal S4x224x224 .f32 := fun p => test (fx p) (fy p)

/-- One corner's term: the lines numbered `fx` and `fy`, weighed `vx` and `vy`. -/
def term (x : FVec Ideal S4x96x224x224 .f32) (fx fy vx vy : FVec Ideal S4x224x224 .f32) : FVec Ideal S4x96x224x224 .f32 :=
  mulf (mulf (Host.gather look x (pairs (places fy) (places fx))) (planes (tests fx fy))) (planes (mulf vx vy))

theorem term_at (x : FVec Ideal S4x96x224x224 .f32) (fx fy vx vy : FVec Ideal S4x224x224 .f32) (b : Fin 4) (ch : Fin 96) (i j : Fin 224) :
    term x fx fy vx vy (ix4 b ch i j)
      = FloatOps.mulf (FloatOps.mulf (pick x b ch (place (fy (ix3 b i j))).toInt.toNat (place (fx (ix3 b i j))).toInt.toNat)
          (test (fx (ix3 b i j)) (fy (ix3 b i j)))) (FloatOps.mulf (vx (ix3 b i j)) (vy (ix3 b i j))) := by
  show FloatOps.mulf (FloatOps.mulf (Host.gather look x (pairs (places fy) (places fx)) (ix4 b ch i j)) (planes (tests fx fy) (ix4 b ch i j)))
    (planes (mulf vx vy) (ix4 b ch i j)) = _
  rw [look_at, planes_at, planes_at]
  rfl

/-- The four terms. -/
def sum (x : FVec Ideal S4x96x224x224 .f32) (gx gy : FVec Ideal S4x224x224 .f32) : FVec Ideal S4x96x224x224 .f32 :=
  addf (addf (addf
    (term x (fun p => lowF (gx p)) (fun p => lowF (gy p)) (fun p => lowV (gx p)) (fun p => lowV (gy p)))
    (term x (fun p => highF (gx p)) (fun p => lowF (gy p)) (fun p => highV (gx p)) (fun p => lowV (gy p))))
    (term x (fun p => lowF (gx p)) (fun p => highF (gy p)) (fun p => lowV (gx p)) (fun p => highV (gy p))))
    (term x (fun p => highF (gx p)) (fun p => highF (gy p)) (fun p => highV (gx p)) (fun p => highV (gy p)))

/-- At a place, the terms are the kernel's. -/
theorem sum_at (x : FVec Ideal S4x96x224x224 .f32) (gx gy : FVec Ideal S4x224x224 .f32) (b : Fin 4) (ch : Fin 96) (i j : Fin 224) :
    sum x gx gy (ix4 b ch i j) =
      (let u := gx (ix3 b i j)
       let v := gy (ix3 b i j)
       let p := pick x b ch
       FloatOps.addf (FloatOps.addf (FloatOps.addf
        (FloatOps.mulf (p (clip (cell v)).toNat (clip (cell u)).toNat) (FloatOps.mulf (lowW u) (lowW v)))
        (FloatOps.mulf (p (clip (cell v)).toNat (clip (next u)).toNat) (FloatOps.mulf (highW u) (lowW v))))
        (FloatOps.mulf (p (clip (next v)).toNat (clip (cell u)).toNat) (FloatOps.mulf (lowW u) (highW v))))
        (FloatOps.mulf (p (clip (next v)).toNat (clip (next u)).toNat) (FloatOps.mulf (highW u) (highW v)))) := by
  show FloatOps.addf (FloatOps.addf (FloatOps.addf (term x _ _ _ _ (ix4 b ch i j)) (term x _ _ _ _ (ix4 b ch i j))) (term x _ _ _ _ (ix4 b ch i j)))
    (term x _ _ _ _ (ix4 b ch i j)) = _
  rw [term_at, term_at, term_at, term_at,
    corner (low_agree (gx (ix3 b i j))) (low_agree (gy (ix3 b i j))),
    corner (high_agree (gx (ix3 b i j))) (low_agree (gy (ix3 b i j))),
    corner (low_agree (gx (ix3 b i j))) (high_agree (gy (ix3 b i j))),
    corner (high_agree (gx (ix3 b i j))) (high_agree (gy (ix3 b i j)))]

end Cert.Sample

end

end
-- ==== Proof.Equal.lean ====
module

public import proofs.«01_k».proof.Proof.Frames
public import proofs.«01_k».proof.Proof.Sample

/-!
# The two results are equal

The reference's result is `sum` of its arguments; so is the kernel's, where the coordinates across fit. Hence from
memories that agree on the arguments the two programs end with equal results.
-/

@[expose] public section

noncomputable section

namespace Cert.Proof

open Idealize.ShloMosaic Idealize.SL.Sem Idealize.ShloMosaic.StableHlo Idealize.ShloMosaic.ValueIdx
open Cert.Vals Cert.Axis Cert.Sample

section Reference
open Cert.ReferenceIdeal Cert.ReferenceIdeal.Gen Cert.ReferenceIdeal.Value

variable (V0 : Valuation τ sig (Elt Ideal))

/-- The reference's arguments. -/
abbrev refOff : FVec Ideal S4x50176x2 .f32 := V0 (Proc.devRef .tc main_arg0)
abbrev refX : FVec Ideal S4x96x224x224 .f32 := V0 (Proc.devRef .tc main_arg1)

theorem ref_gx : res_main_v23 (F := Ideal) V0 = coordX (refOff V0) := rfl
theorem ref_gy : res_main_v31 (F := Ideal) V0 = coordY (refOff V0) := rfl

theorem ref_first : res_main_v156 (F := Ideal) V0 = addf (addf
    (term (refX V0) (fun p => lowF (res_main_v23 V0 p)) (fun p => lowF (res_main_v31 V0 p)) (fun p => lowV (res_main_v23 V0 p)) (fun p => lowV (res_main_v31 V0 p)))
    (term (refX V0) (fun p => highF (res_main_v23 V0 p)) (fun p => lowF (res_main_v31 V0 p)) (fun p => highV (res_main_v23 V0 p)) (fun p => lowV (res_main_v31 V0 p))))
    (term (refX V0) (fun p => lowF (res_main_v23 V0 p)) (fun p => highF (res_main_v31 V0 p)) (fun p => lowV (res_main_v23 V0 p)) (fun p => highV (res_main_v31 V0 p))) := rfl

/-- The reference runs and leaves the sum of its arguments. -/
theorem run_ri (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v194)
        = sum (refX (launchContents m c)) (coordX (refOff (launchContents m c))) (coordY (refOff (launchContents m c)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by
    rw [ref_first]
    show _ = sum (refX (launchContents m c)) (res_main_v23 (launchContents m c)) (res_main_v31 (launchContents m c))
    exact congrArg (addf _) (rfl : _ = term (refX (launchContents m c)) (fun p => highF (res_main_v23 (launchContents m c) p))
      (fun p => highF (res_main_v31 (launchContents m c) p)) (fun p => highV (res_main_v23 (launchContents m c) p))
      (fun p => highV (res_main_v31 (launchContents m c) p)))), (h c).2⟩)
    (Value.run (F := Ideal) m g)

end Reference

/-! ## The kernel's result -/

section Kernel
open Cert.KernelIdeal Cert.KernelIdeal.Gen

/-- A flat plane's place is the plane's row and column. -/
theorem nth_plane (x : FVec Ideal S4x96x224x224 .f32) (b : Fin 4) (ch : Fin 96) {r c : Nat} (hr : r < 224) (hc : c < 224) :
    nth (shapeCast S19267584 x shapeCasts_S4x96x224x224_S19267584) ((b.val * 96 + ch.val) * 50176 + (r * 224 + c)) = pick x b ch r c := by
  have hb := b.isLt
  have hch := ch.isLt
  rw [nth_of_lt _ (by omega)]
  refine shapeCast_apply _ _ _ _ ?_
  rw [Shape.rowMajor_val_four, Shape.rowMajor_val_one]
  show ((b.val * 96 + ch.val) * 224 + min r 223) * 224 + min c 223 = (b.val * 96 + ch.val) * 50176 + (r * 224 + c)
  omega

/-- A flat table's place is the image's row and column. -/
theorem nth_table (v : FVec Ideal S4x224x224 .f32) (b : Fin 4) (i j : Fin 224) :
    nth (shapeCast S200704 v shapeCasts_S4x224x224_S200704) (b.val * 50176 + (i.val * 224 + j.val)) = v (ix3 b i j) := by
  have hb := b.isLt
  have hi := i.isLt
  have hj := j.isLt
  rw [nth_of_lt _ (by omega)]
  refine shapeCast_apply _ _ _ _ ?_
  rw [Shape.rowMajor_val_three, Shape.rowMajor_val_one]
  show (b.val * 224 + i.val) * 224 + j.val = b.val * 50176 + (i.val * 224 + j.val)
  omega

/-- The flat result, in the shape of the planes, is the sum. -/
theorem out_eq (x : FVec Ideal S4x96x224x224 .f32) (gx gy : FVec Ideal S4x224x224 .f32) (hx : ∀ p, Fit (gx p)) (A : Tile.Args Ideal)
    (e1 : A.x = shapeCast S19267584 x shapeCasts_S4x96x224x224_S19267584) (e2 : A.gx = shapeCast S200704 gx shapeCasts_S4x224x224_S200704)
    (e3 : A.gy = shapeCast S200704 gy shapeCasts_S4x224x224_S200704) :
    shapeCast S4x96x224x224 A.out shapeCasts_S19267584_S4x96x224x224 = sum x gx gy := by
  funext y
  obtain ⟨b, ch, i, j, rfl⟩ : ∃ (b : Fin 4) (ch : Fin 96) (i j : Fin 224), y = ix4 b ch i j := ⟨y 0, y 1, y 2, y 3, eq_ix4 y⟩
  have hb := b.isLt
  have hch := ch.isLt
  have hi := i.isLt
  have hj := j.isLt
  have hk : (b.val * 96 + ch.val) * 50176 + (i.val * 224 + j.val) < 19267584 := by omega
  rw [shapeCast_apply _ _ _ (ix1 ⟨(b.val * 96 + ch.val) * 50176 + (i.val * 224 + j.val), hk⟩) (by
    rw [Shape.rowMajor_val_four, Shape.rowMajor_val_one]
    show (b.val * 96 + ch.val) * 50176 + (i.val * 224 + j.val) = ((b.val * 96 + ch.val) * 224 + i.val) * 224 + j.val
    omega), sum_at]
  show outAt A.x A.gx A.gy ((b.val * 96 + ch.val) * 50176 + (i.val * 224 + j.val)) = _
  unfold outAt
  rw [show ((b.val * 96 + ch.val) * 50176 + (i.val * 224 + j.val)) / 4816896 * 50176 + ((b.val * 96 + ch.val) * 50176 + (i.val * 224 + j.val)) % 50176
      = b.val * 50176 + (i.val * 224 + j.val) by omega,
    show ((b.val * 96 + ch.val) * 50176 + (i.val * 224 + j.val)) / 50176 * 50176 = (b.val * 96 + ch.val) * 50176 by omega,
    e1, e2, e3, nth_table, nth_table]
  simp only []
  unfold blend
  rw [lowIx_toNat, low_dx_toNat _ (hx _), high_dx_toNat _ (hx _), highIx_toNat]
  beta_reduce
  rw [nth_plane x b ch (clip_lt _) (clip_lt _), nth_plane x b ch (clip_lt _) (clip_lt _), nth_plane x b ch (clip_lt _) (clip_lt _), nth_plane x b ch (clip_lt _) (clip_lt _)]
  rfl

/-- The idealized kernel's result. -/
theorem kernel_out (m : (ℓ : Loc nD τ sig) → Buf (Elt Ideal) ℓ) (hpre : Cert.Pre_KernelIdeal m) (d : Dev nD) :
    Tile.Vend m d (Proc.devRef .tc main_v36)
      = sum (m (d, Proc.devRef .tc main_arg1)) (coordX (F := Ideal) (m (d, Proc.devRef .tc main_arg0))) (coordY (F := Ideal) (m (d, Proc.devRef .tc main_arg0))) :=
  (Tile.Vend_out m d).trans (out_eq _ _ _ (Cert.Pre.fits (hpre d)) _ (Tile.args_x m d) (Tile.args_gx m d) (Tile.args_gy m d))

end Kernel

theorem frame_ri_pre : Cert.quiescent_ReferenceIdeal_pre_columns_fit := fun m g _ => frame_ri m g trivial

theorem algebraic : Cert.algebraic_KernelIdeal_ReferenceIdeal := fun m g m' g' hpre hag =>
  ⟨fun c => sum (m ((c.tc : Thread Cert.KernelIdeal.nD Cert.KernelIdeal.τ).loc Cert.KernelIdeal.main_arg1))
      (coordX (F := Ideal) (m ((c.tc : Thread Cert.KernelIdeal.nD Cert.KernelIdeal.τ).loc Cert.KernelIdeal.main_arg0)))
      (coordY (F := Ideal) (m ((c.tc : Thread Cert.KernelIdeal.nD Cert.KernelIdeal.τ).loc Cert.KernelIdeal.main_arg0))),
    (θ_run Cert.KernelIdeal.defs _ _).mono
      (fun _ h c => ⟨(h.1 c _ (devRef_mem_tcRefs Cert.KernelIdeal.main_v36)).trans (kernel_out m hpre c),
        (h.1 c _ (devRef_mem_tcRefs Cert.KernelIdeal.main_arg0)).trans (Cert.KernelIdeal.Tile.Vend_off m c),
        (h.1 c _ (devRef_mem_tcRefs Cert.KernelIdeal.main_arg1)).trans (Cert.KernelIdeal.Tile.Vend_x m c)⟩)
      (run_pi m g hpre),
    (θ_run Cert.ReferenceIdeal.defs _ _).mono
      (fun _ h c => ⟨(h c).1.trans (by
        show sum (m' ((c.tc : Thread Cert.ReferenceIdeal.nD Cert.ReferenceIdeal.τ).loc Cert.ReferenceIdeal.main_arg1))
          (coordX (F := Ideal) (m' ((c.tc : Thread Cert.ReferenceIdeal.nD Cert.ReferenceIdeal.τ).loc Cert.ReferenceIdeal.main_arg0)))
          (coordY (F := Ideal) (m' ((c.tc : Thread Cert.ReferenceIdeal.nD Cert.ReferenceIdeal.τ).loc Cert.ReferenceIdeal.main_arg0))) = _
        rw [(hag c).1, (hag c).2]), (h c).2⟩)
      (run_ri m' g')⟩

end Cert.Proof

end

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre.facts, frame_p, frame_pi, frame_ri, frame_ri_pre,
    trivial, algebraic⟩

end Cert.Proof

end
